-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v98)) (v1 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_v99) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_v170) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x1024 : Shape := ⟨3, ![2, 2048, 1024]⟩
abbrev S1024x8 : Shape := ⟨2, ![1024, 8]⟩
abbrev S8x1024x2688 : Shape := ⟨3, ![8, 1024, 2688]⟩
abbrev S8x2688x1024 : Shape := ⟨3, ![8, 2688, 1024]⟩
abbrev S4096x1024 : Shape := ⟨2, ![4096, 1024]⟩
abbrev S4096x2 : Shape := ⟨2, ![4096, 2]⟩
abbrev S1x1 : Shape := ⟨2, ![1, 1]⟩
abbrev S4096x8 : Shape := ⟨2, ![4096, 8]⟩
abbrev S4096 : Shape := ⟨1, ![4096]⟩
abbrev S4096x1 : Shape := ⟨2, ![4096, 1]⟩
abbrev S8 : Shape := ⟨1, ![8]⟩
abbrev S1x8 : Shape := ⟨2, ![1, 8]⟩
abbrev S1 : Shape := ⟨1, ![1]⟩
abbrev S8192 : Shape := ⟨1, ![8192]⟩
abbrev S8192x1 : Shape := ⟨2, ![8192, 1]⟩
abbrev S8192x8 : Shape := ⟨2, ![8192, 8]⟩
abbrev S_ : Shape := ⟨0, ![]⟩
abbrev S8192x1x1 : Shape := ⟨3, ![8192, 1, 1]⟩
abbrev S1x1x1 : Shape := ⟨3, ![1, 1, 1]⟩
abbrev S10240 : Shape := ⟨1, ![10240]⟩
abbrev S10240x1 : Shape := ⟨2, ![10240, 1]⟩
abbrev S10240x1024 : Shape := ⟨2, ![10240, 1024]⟩
abbrev S40 : Shape := ⟨1, ![40]⟩
abbrev S40x1 : Shape := ⟨2, ![40, 1]⟩
abbrev S40x8 : Shape := ⟨2, ![40, 8]⟩
abbrev S256x1024 : Shape := ⟨2, ![256, 1024]⟩
abbrev S1x1024x896 : Shape := ⟨3, ![1, 1024, 896]⟩
abbrev S1x896x1024 : Shape := ⟨3, ![1, 896, 1024]⟩
abbrev S256x1 : Shape := ⟨2, ![256, 1]⟩
abbrev S1024x896 : Shape := ⟨2, ![1024, 896]⟩
abbrev S256x896 : Shape := ⟨2, ![256, 896]⟩
abbrev S896x1024 : Shape := ⟨2, ![896, 1024]⟩

abbrev nBuf : Space → Nat
  | .hbm => 201
  | .vmem => 18
  | .smem => 2
  | _ => 0

abbrev hbmTy0_0 (i : Nat) : BufTy := match i % 128 with
  | 0 => ⟨S2x2048x1024, .f32⟩
  | 1 => ⟨S1024x8, .f32⟩
  | 2 => ⟨S8x1024x2688, .f32⟩
  | 3 => ⟨S8x1024x2688, .f32⟩
  | 4 => ⟨S8x2688x1024, .f32⟩
  | 5 => ⟨S4096x1024, .f32⟩
  | 6 => ⟨S4096x2, .i32⟩
  | 7 => ⟨S4096x2, .f32⟩
  | 8 => ⟨S1x1, .f32⟩
  | 9 => ⟨S8192, .i32⟩
  | 10 => ⟨S8192, .f32⟩
  | 11 => ⟨S8192x1, .i32⟩
  | 12 => ⟨S8, .i32⟩
  | 13 => ⟨S1x8, .i32⟩
  | 14 => ⟨S8192x8, .i32⟩
  | 15 => ⟨S8192x8, .i32⟩
  | 16 => ⟨S8192x8, .i1⟩
  | 17 => ⟨S8192x8, .i32⟩
  | 18 => ⟨S_, .i32⟩
  | 19 => ⟨S8, .i32⟩
  | 20 => ⟨S_, .i32⟩
  | 21 => ⟨S8, .i32⟩
  | 22 => ⟨S8, .i32⟩
  | 23 => ⟨S_, .i32⟩
  | 24 => ⟨S8, .i32⟩
  | 25 => ⟨S8, .i32⟩
  | 26 => ⟨S_, .i32⟩
  | 27 => ⟨S_, .i32⟩
  | 28 => ⟨S8, .i32⟩
  | 29 => ⟨S8, .i32⟩
  | 30 => ⟨S8, .i32⟩
  | 31 => ⟨S_, .i32⟩
  | 32 => ⟨S8, .i32⟩
  | 33 => ⟨S8, .i1⟩
  | 34 => ⟨S8, .i32⟩
  | 35 => ⟨S8, .i32⟩
  | 36 => ⟨S_, .i32⟩
  | 37 => ⟨S8, .i32⟩
  | 38 => ⟨S8, .i1⟩
  | 39 => ⟨S8, .i1⟩
  | 40 => ⟨S_, .i32⟩
  | 41 => ⟨S8, .i32⟩
  | 42 => ⟨S8, .i32⟩
  | 43 => ⟨S8, .i32⟩
  | 44 => ⟨S_, .i32⟩
  | 45 => ⟨S8, .i32⟩
  | 46 => ⟨S8, .i32⟩
  | 47 => ⟨S_, .i32⟩
  | 48 => ⟨S_, .i32⟩
  | 49 => ⟨S8, .i32⟩
  | 50 => ⟨S8, .i32⟩
  | 51 => ⟨S_, .i32⟩
  | 52 => ⟨S_, .i32⟩
  | 53 => ⟨S8192x8, .i32⟩
  | 54 => ⟨S8192x1, .i32⟩
  | 55 => ⟨S_, .i32⟩
  | 56 => ⟨S8192x1, .i32⟩
  | 57 => ⟨S8192x1, .i1⟩
  | 58 => ⟨S_, .i32⟩
  | 59 => ⟨S8192x1, .i32⟩
  | 60 => ⟨S8192x1, .i32⟩
  | 61 => ⟨S8192x1, .i32⟩
  | 62 => ⟨S8192x1x1, .i32⟩
  | 63 => ⟨S1, .i32⟩
  | 64 => ⟨S_, .i32⟩
  | 65 => ⟨S8192x1x1, .i32⟩
  | 66 => ⟨S8192x1x1, .i1⟩
  | 67 => ⟨S1x1x1, .i32⟩
  | 68 => ⟨S8192x1x1, .i32⟩
  | 69 => ⟨S8192x1x1, .i1⟩
  | 70 => ⟨S8192x1x1, .i1⟩
  | 71 => ⟨S_, .i1⟩
  | 72 => ⟨S8192x1, .i1⟩
  | 73 => ⟨S8192x1, .i32⟩
  | 74 => ⟨S_, .i32⟩
  | 75 => ⟨S8192x1, .i32⟩
  | 76 => ⟨S8192x1, .i32⟩
  | 77 => ⟨S8192, .i32⟩
  | 78 => ⟨S_, .i32⟩
  | 79 => ⟨S8192, .i32⟩
  | 80 => ⟨S8192, .i32⟩
  | 81 => ⟨S_, .i32⟩
  | 82 => ⟨S8192, .i32⟩
  | 83 => ⟨S8192, .i1⟩
  | 84 => ⟨S_, .i32⟩
  | 85 => ⟨S8192, .i32⟩
  | 86 => ⟨S8192, .i32⟩
  | 87 => ⟨S8192, .i32⟩
  | 88 => ⟨S8192x1, .i32⟩
  | 89 => ⟨S8192, .i32⟩
  | 90 => ⟨S8192, .i32⟩
  | 91 => ⟨S_, .i32⟩
  | 92 => ⟨S10240, .i32⟩
  | 93 => ⟨S8192, .i32⟩
  | 94 => ⟨S_, .i32⟩
  | 95 => ⟨S_, .i32⟩
  | 96 => ⟨S8192, .i32⟩
  | 97 => ⟨S8192, .i32⟩
  | 98 => ⟨S8192, .i32⟩
  | 99 => ⟨S_, .i32⟩
  | 100 => ⟨S8192, .i32⟩
  | 101 => ⟨S8192, .i1⟩
  | 102 => ⟨S8192, .i32⟩
  | 103 => ⟨S8192, .i32⟩
  | 104 => ⟨S_, .i32⟩
  | 105 => ⟨S8192, .i32⟩
  | 106 => ⟨S8192, .i1⟩
  | 107 => ⟨S8192, .i1⟩
  | 108 => ⟨S_, .i32⟩
  | 109 => ⟨S8192, .i32⟩
  | 110 => ⟨S8192, .i32⟩
  | 111 => ⟨S8192, .i32⟩
  | 112 => ⟨S_, .i32⟩
  | 113 => ⟨S8192, .i32⟩
  | 114 => ⟨S8192, .i1⟩
  | 115 => ⟨S_, .i32⟩
  | 116 => ⟨S8192, .i32⟩
  | 117 => ⟨S8192, .i32⟩
  | 118 => ⟨S8192, .i32⟩
  | 119 => ⟨S8192x1, .i32⟩
  | 120 => ⟨S10240, .i32⟩
  | 121 => ⟨S_, .f32⟩
  | 122 => ⟨S10240, .f32⟩
  | 123 => ⟨S_, .i32⟩
  | 124 => ⟨S8192, .i32⟩
  | 125 => ⟨S8192, .i1⟩
  | 126 => ⟨S_, .i32⟩
  | 127 => ⟨S8192, .i32⟩
  | _ => ⟨S2x2048x1024, .f32⟩

abbrev hbmTy0_1 (i : Nat) : BufTy := match i % 128 with
  | 0 => ⟨S8192, .i32⟩
  | 1 => ⟨S8192, .i32⟩
  | 2 => ⟨S8192x1, .i32⟩
  | 3 => ⟨S10240, .f32⟩
  | 4 => ⟨S_, .i32⟩
  | 5 => ⟨S10240, .i32⟩
  | 6 => ⟨S10240, .i1⟩
  | 7 => ⟨S_, .i32⟩
  | 8 => ⟨S10240, .i32⟩
  | 9 => ⟨S10240, .i32⟩
  | 10 => ⟨S10240, .i32⟩
  | 11 => ⟨S10240x1, .i32⟩
  | 12 => ⟨S10240x1024, .f32⟩
  | 13 => ⟨S_, .i32⟩
  | 14 => ⟨S_, .i32⟩
  | 15 => ⟨S8, .i32⟩
  | 16 => ⟨S40, .i32⟩
  | 17 => ⟨S_, .i32⟩
  | 18 => ⟨S40, .i32⟩
  | 19 => ⟨S40, .i32⟩
  | 20 => ⟨S40x1, .i32⟩
  | 21 => ⟨S1x8, .i32⟩
  | 22 => ⟨S40x8, .i32⟩
  | 23 => ⟨S40x8, .i32⟩
  | 24 => ⟨S40x8, .i1⟩
  | 25 => ⟨S40x8, .i32⟩
  | 26 => ⟨S_, .i32⟩
  | 27 => ⟨S40, .i32⟩
  | 28 => ⟨S_, .i32⟩
  | 29 => ⟨S40, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i1⟩
  | 41 => ⟨S_, .i1⟩
  | 42 => ⟨S_, .i32⟩
  | 43 => ⟨S_, .i32⟩
  | 44 => ⟨S_, .i32⟩
  | 45 => ⟨S10240x1, .f32⟩
  | 46 => ⟨S10240x1024, .f32⟩
  | 47 => ⟨S4096x2, .i32⟩
  | 48 => ⟨S4096x1, .i32⟩
  | 49 => ⟨S4096, .i32⟩
  | 50 => ⟨S_, .i32⟩
  | 51 => ⟨S4096, .i32⟩
  | 52 => ⟨S4096, .i1⟩
  | 53 => ⟨S_, .i32⟩
  | 54 => ⟨S4096, .i32⟩
  | 55 => ⟨S4096, .i32⟩
  | 56 => ⟨S4096, .i32⟩
  | 57 => ⟨S4096x1, .i32⟩
  | 58 => ⟨S4096x1024, .f32⟩
  | 59 => ⟨S4096x1, .i32⟩
  | 60 => ⟨S4096, .i32⟩
  | 61 => ⟨S_, .i32⟩
  | 62 => ⟨S4096, .i32⟩
  | 63 => ⟨S4096, .i1⟩
  | 64 => ⟨S_, .i32⟩
  | 65 => ⟨S4096, .i32⟩
  | 66 => ⟨S4096, .i32⟩
  | 67 => ⟨S4096, .i32⟩
  | 68 => ⟨S4096x1, .i32⟩
  | 69 => ⟨S4096x1024, .f32⟩
  | 70 => ⟨S4096x1024, .f32⟩
  | 71 => ⟨S2x2048x1024, .f32⟩
  | 72 => ⟨S_, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | .local _ .vmem, ⟨0, _⟩ => ⟨S4096x1024, .f32⟩
  | .local _ .vmem, ⟨1, _⟩ => ⟨S1024x8, .f32⟩
  | .local _ .vmem, ⟨2, _⟩ => ⟨S4096x2, .i32⟩
  | .local _ .vmem, ⟨3, _⟩ => ⟨S4096x2, .f32⟩
  | .local _ .vmem, ⟨4, _⟩ => ⟨S1x1, .f32⟩
  | .local _ .vmem, ⟨5, _⟩ => ⟨S256x1024, .f32⟩
  | .local _ .vmem, ⟨6, _⟩ => ⟨S256x1024, .f32⟩
  | .local _ .vmem, ⟨7, _⟩ => ⟨S1x1024x896, .f32⟩
  | .local _ .vmem, ⟨8, _⟩ => ⟨S1x1024x896, .f32⟩
  | .local _ .vmem, ⟨9, _⟩ => ⟨S1x1024x896, .f32⟩
  | .local _ .vmem, ⟨10, _⟩ => ⟨S1x1024x896, .f32⟩
  | .local _ .vmem, ⟨11, _⟩ => ⟨S1x896x1024, .f32⟩
  | .local _ .vmem, ⟨12, _⟩ => ⟨S1x896x1024, .f32⟩
  | .local _ .vmem, ⟨13, _⟩ => ⟨S256x1, .f32⟩
  | .local _ .vmem, ⟨14, _⟩ => ⟨S256x1, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .smem, ⟨0, _⟩ => ⟨S40, .i32⟩
  | .local _ .smem, ⟨1, _⟩ => ⟨S1, .i32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v16 : Ref sig .tc := ⟨.hbm, 43, rfl⟩
abbrev main_c_3 : Ref sig .tc := ⟨.hbm, 44, rfl⟩
abbrev main_v17 : Ref sig .tc := ⟨.hbm, 45, rfl⟩
abbrev main_v18 : Ref sig .tc := ⟨.hbm, 46, rfl⟩
abbrev main_call1_call0_c : Ref sig .tc := ⟨.hbm, 47, rfl⟩
abbrev main_call1_call0_v0 : Ref sig .tc := ⟨.hbm, 48, rfl⟩
abbrev main_v19 : Ref sig .tc := ⟨.hbm, 49, rfl⟩
abbrev main_v20 : Ref sig .tc := ⟨.hbm, 50, rfl⟩
abbrev main_call2_call0_c : Ref sig .tc := ⟨.hbm, 51, rfl⟩
abbrev main_call2_call0_v0 : Ref sig .tc := ⟨.hbm, 52, rfl⟩
abbrev main_v21 : Ref sig .tc := ⟨.hbm, 53, rfl⟩
abbrev main_v22 : Ref sig .tc := ⟨.hbm, 54, rfl⟩
abbrev main_call3_c : Ref sig .tc := ⟨.hbm, 55, rfl⟩
abbrev main_call3_v0 : Ref sig .tc := ⟨.hbm, 56, rfl⟩
abbrev main_call3_v1 : Ref sig .tc := ⟨.hbm, 57, rfl⟩
abbrev main_call3_c_0 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_call3_v5 : Ref sig .tc := ⟨.hbm, 62, rfl⟩
abbrev main_call3_c_1 : Ref sig .tc := ⟨.hbm, 63, rfl⟩
abbrev main_call3_c_2 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_v9 : Ref sig .tc := ⟨.hbm, 68, rfl⟩
abbrev main_call3_v10 : Ref sig .tc := ⟨.hbm, 69, rfl⟩
abbrev main_call3_v11 : Ref sig .tc := ⟨.hbm, 70, rfl⟩
abbrev main_call3_c_3 : Ref sig .tc := ⟨.hbm, 71, rfl⟩
abbrev main_call3_v12 : Ref sig .tc := ⟨.hbm, 72, rfl⟩
abbrev main_call3_v13 : Ref sig .tc := ⟨.hbm, 73, rfl⟩
abbrev main_call3_c_4 : Ref sig .tc := ⟨.hbm, 74, rfl⟩
abbrev main_call3_v14 : Ref sig .tc := ⟨.hbm, 75, rfl⟩
abbrev main_v23 : Ref sig .tc := ⟨.hbm, 76, rfl⟩
abbrev main_v24 : Ref sig .tc := ⟨.hbm, 77, rfl⟩
abbrev main_c_4 : Ref sig .tc := ⟨.hbm, 78, rfl⟩
abbrev main_v25 : Ref sig .tc := ⟨.hbm, 79, rfl⟩
abbrev main_v26 : Ref sig .tc := ⟨.hbm, 80, rfl⟩
abbrev main_c_5 : Ref sig .tc := ⟨.hbm, 81, rfl⟩
abbrev main_v27 : Ref sig .tc := ⟨.hbm, 82, rfl⟩
abbrev main_v28 : Ref sig .tc := ⟨.hbm, 83, rfl⟩
abbrev main_c_6 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_c_7 : Ref sig .tc := ⟨.hbm, 91, rfl⟩
abbrev main_v35 : Ref sig .tc := ⟨.hbm, 92, rfl⟩
abbrev main_v36 : Ref sig .tc := ⟨.hbm, 93, rfl⟩
abbrev main_c_8 : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_call4_v5 : Ref sig .tc := ⟨.hbm, 100, rfl⟩
abbrev main_call4_v6 : Ref sig .tc := ⟨.hbm, 101, rfl⟩
abbrev main_call4_v7 : Ref sig .tc := ⟨.hbm, 102, rfl⟩
abbrev main_call4_v8 : Ref sig .tc := ⟨.hbm, 103, rfl⟩
abbrev main_call4_c : Ref sig .tc := ⟨.hbm, 104, rfl⟩
abbrev main_call4_v9 : Ref sig .tc := ⟨.hbm, 105, rfl⟩
abbrev main_call4_v10 : Ref sig .tc := ⟨.hbm, 106, rfl⟩
abbrev main_call4_v11 : Ref sig .tc := ⟨.hbm, 107, rfl⟩
abbrev main_call4_c_0 : Ref sig .tc := ⟨.hbm, 108, rfl⟩
abbrev main_call4_v12 : Ref sig .tc := ⟨.hbm, 109, rfl⟩
abbrev main_call4_v13 : Ref sig .tc := ⟨.hbm, 110, rfl⟩
abbrev main_v37 : Ref sig .tc := ⟨.hbm, 111, rfl⟩
abbrev main_c_9 : Ref sig .tc := ⟨.hbm, 112, rfl⟩
abbrev main_v38 : Ref sig .tc := ⟨.hbm, 113, rfl⟩
abbrev main_v39 : Ref sig .tc := ⟨.hbm, 114, rfl⟩
abbrev main_c_10 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_cst : Ref sig .tc := ⟨.hbm, 121, rfl⟩
abbrev main_v45 : Ref sig .tc := ⟨.hbm, 122, rfl⟩
abbrev main_c_11 : Ref sig .tc := ⟨.hbm, 123, rfl⟩
abbrev main_v46 : Ref sig .tc := ⟨.hbm, 124, rfl⟩
abbrev main_v47 : Ref sig .tc := ⟨.hbm, 125, rfl⟩
abbrev main_c_12 : Ref sig .tc := ⟨.hbm, 126, rfl⟩
abbrev main_v48 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_c_13 : Ref sig .tc := ⟨.hbm, 132, rfl⟩
abbrev main_v53 : Ref sig .tc := ⟨.hbm, 133, rfl⟩
abbrev main_v54 : Ref sig .tc := ⟨.hbm, 134, rfl⟩
abbrev main_c_14 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩
abbrev main_v58 : Ref sig .tc := ⟨.hbm, 139, rfl⟩
abbrev main_v59 : Ref sig .tc := ⟨.hbm, 140, rfl⟩
abbrev main_call5_call0_c : Ref sig .tc := ⟨.hbm, 141, rfl⟩
abbrev main_call5_call0_v0 : Ref sig .tc := ⟨.hbm, 142, rfl⟩
abbrev main_v60 : Ref sig .tc := ⟨.hbm, 143, rfl⟩
abbrev main_v61 : Ref sig .tc := ⟨.hbm, 144, rfl⟩
abbrev main_c_15 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_c_16 : Ref sig .tc := ⟨.hbm, 154, rfl⟩
abbrev main_v70 : Ref sig .tc := ⟨.hbm, 155, rfl⟩
abbrev main_c_17 : Ref sig .tc := ⟨.hbm, 156, rfl⟩
abbrev main_v71 : Ref sig .tc := ⟨.hbm, 157, rfl⟩
abbrev main_c_18 : Ref sig .tc := ⟨.hbm, 158, rfl⟩
abbrev main_v73 : Ref sig .tc := ⟨.hbm, 159, rfl⟩
abbrev main_c_19 : Ref sig .tc := ⟨.hbm, 160, rfl⟩
abbrev main_call6_v0 : Ref sig .tc := ⟨.hbm, 161, rfl⟩
abbrev main_call6_v1 : Ref sig .tc := ⟨.hbm, 162, rfl⟩
abbrev main_call6_v2 : Ref sig .tc := ⟨.hbm, 163, rfl⟩
abbrev main_call6_v3 : Ref sig .tc := ⟨.hbm, 164, rfl⟩
abbrev main_call6_v4 : Ref sig .tc := ⟨.hbm, 165, rfl⟩
abbrev main_call6_v5 : Ref sig .tc := ⟨.hbm, 166, rfl⟩
abbrev main_call6_c : Ref sig .tc := ⟨.hbm, 167, rfl⟩
abbrev main_call6_v6 : Ref sig .tc := ⟨.hbm, 168, rfl⟩
abbrev main_call6_v7 : Ref sig .tc := ⟨.hbm, 169, rfl⟩
abbrev main_call6_c_0 : Ref sig .tc := ⟨.hbm, 170, rfl⟩
abbrev main_call6_v8 : Ref sig .tc := ⟨.hbm, 171, rfl⟩
abbrev main_v74 : Ref sig .tc := ⟨.hbm, 172, rfl⟩
abbrev main_v76 : Ref sig .tc := ⟨.hbm, 173, rfl⟩
abbrev main_v77 : Ref sig .tc := ⟨.hbm, 174, rfl⟩
abbrev main_v78 : Ref sig .tc := ⟨.hbm, 175, rfl⟩
abbrev main_v79 : Ref sig .tc := ⟨.hbm, 176, rfl⟩
abbrev main_v80 : Ref sig .tc := ⟨.hbm, 177, rfl⟩
abbrev main_c_20 : Ref sig .tc := ⟨.hbm, 178, rfl⟩
abbrev main_v81 : Ref sig .tc := ⟨.hbm, 179, rfl⟩
abbrev main_v82 : Ref sig .tc := ⟨.hbm, 180, rfl⟩
abbrev main_c_21 : Ref sig .tc := ⟨.hbm, 181, rfl⟩
abbrev main_v83 : Ref sig .tc := ⟨.hbm, 182, rfl⟩
abbrev main_v84 : Ref sig .tc := ⟨.hbm, 183, rfl⟩
abbrev main_v85 : Ref sig .tc := ⟨.hbm, 184, rfl⟩
abbrev main_v86 : Ref sig .tc := ⟨.hbm, 185, rfl⟩
abbrev main_v87 : Ref sig .tc := ⟨.hbm, 186, rfl⟩
abbrev main_v88 : Ref sig .tc := ⟨.hbm, 187, rfl⟩
abbrev main_v89 : Ref sig .tc := ⟨.hbm, 188, rfl⟩
abbrev main_c_22 : Ref sig .tc := ⟨.hbm, 189, rfl⟩
abbrev main_v90 : Ref sig .tc := ⟨.hbm, 190, rfl⟩
abbrev main_v91 : Ref sig .tc := ⟨.hbm, 191, rfl⟩
abbrev main_c_23 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_v97 : Ref sig .tc := ⟨.hbm, 198, rfl⟩
abbrev main_v98 : Ref sig .tc := ⟨.hbm, 199, rfl⟩
abbrev main_v99 : Ref sig .tc := ⟨.hbm, 200, rfl⟩
abbrev main_v72 : Ref sig .tc := ⟨.smem, 0, rfl⟩
abbrev main_v75 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := .none

abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![40, 3], ![false, false]⟩

abbrev pre1 : Pipeline.Prefetch sig := ⟨2, ![main_v72.idx, main_v75.idx], fun | 0 => main_v72.names | 1 => main_v75.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond3 (i : grid1.Coords) : BitVec 1 :=
  let arg1 : BitVec 32 := BitVec.ofNat 32 (i 1).val
  let c2_i32 : BitVec 32 := 2#32
  let v7 : BitVec 1 := Scalar.cmpi .eq arg1 c2_i32
  let v8 : BitVec 32 := Scalar.extui v7
  let c0_i32_2 : BitVec 32 := 0#32
  let v9 : BitVec 1 := Scalar.cmpi .ne v8 c0_i32_2
  v9

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  ![v1.toNat, c0_i32.toNat, arg1.toNat]

def cc1_transform_2 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  ![v1.toNat, c0_i32.toNat, arg1.toNat]

def cc1_transform_3 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  ![v1.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x896 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x896 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x896x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== ReferenceIdeal.lean ====
abbrev S2x2048x1024 : Shape := ⟨3, ![2, 2048, 1024]⟩
abbrev S1024x8 : Shape := ⟨2, ![1024, 8]⟩
abbrev S8x1024x2688 : Shape := ⟨3, ![8, 1024, 2688]⟩
abbrev S8x2688x1024 : Shape := ⟨3, ![8, 2688, 1024]⟩
abbrev S4096x1024 : Shape := ⟨2, ![4096, 1024]⟩
abbrev S4096x8 : Shape := ⟨2, ![4096, 8]⟩
abbrev S_ : Shape := ⟨0, ![]⟩
abbrev S4096 : Shape := ⟨1, ![4096]⟩
abbrev S4096x1 : Shape := ⟨2, ![4096, 1]⟩
abbrev S4096x2 : Shape := ⟨2, ![4096, 2]⟩
abbrev S8 : Shape := ⟨1, ![8]⟩
abbrev S4096x2x1 : Shape := ⟨3, ![4096, 2, 1]⟩
abbrev S1x1x8 : Shape := ⟨3, ![1, 1, 8]⟩
abbrev S4096x2x8 : Shape := ⟨3, ![4096, 2, 8]⟩
abbrev S4096x2x2 : Shape := ⟨3, ![4096, 2, 2]⟩
abbrev S1x1024x2688 : Shape := ⟨3, ![1, 1024, 2688]⟩
abbrev S1024x2688 : Shape := ⟨2, ![1024, 2688]⟩
abbrev S4096x2688 : Shape := ⟨2, ![4096, 2688]⟩
abbrev S1x2688x1024 : Shape := ⟨3, ![1, 2688, 1024]⟩
abbrev S2688x1024 : Shape := ⟨2, ![2688, 1024]⟩

abbrev nBuf : Space → Nat
  | .hbm => 266
  | .vmem => 0
  | .smem => 0
  | _ => 0

abbrev hbmTy0_0 (i : Nat) : BufTy := match i % 128 with
  | 0 => ⟨S2x2048x1024, .f32⟩
  | 1 => ⟨S1024x8, .f32⟩
  | 2 => ⟨S8x1024x2688, .f32⟩
  | 3 => ⟨S8x1024x2688, .f32⟩
  | 4 => ⟨S8x2688x1024, .f32⟩
  | 5 => ⟨S4096x1024, .f32⟩
  | 6 => ⟨S4096x8, .f32⟩
  | 7 => ⟨S_, .f32⟩
  | 8 => ⟨S4096, .f32⟩
  | 9 => ⟨S_, .f32⟩
  | 10 => ⟨S4096, .f32⟩
  | 11 => ⟨S4096, .f32⟩
  | 12 => ⟨S4096x1, .f32⟩
  | 13 => ⟨S4096x8, .f32⟩
  | 14 => ⟨S4096x8, .f32⟩
  | 15 => ⟨S4096x8, .f32⟩
  | 16 => ⟨S_, .f32⟩
  | 17 => ⟨S4096, .f32⟩
  | 18 => ⟨S4096x1, .f32⟩
  | 19 => ⟨S4096x8, .f32⟩
  | 20 => ⟨S4096x8, .f32⟩
  | 21 => ⟨S4096x2, .f32⟩
  | 22 => ⟨S4096x2, .i32⟩
  | 23 => ⟨S_, .f32⟩
  | 24 => ⟨S4096, .f32⟩
  | 25 => ⟨S4096x1, .f32⟩
  | 26 => ⟨S_, .f32⟩
  | 27 => ⟨S4096x1, .f32⟩
  | 28 => ⟨S4096x1, .f32⟩
  | 29 => ⟨S4096x2, .f32⟩
  | 30 => ⟨S4096x2, .f32⟩
  | 31 => ⟨S_, .f32⟩
  | 32 => ⟨S8, .f32⟩
  | 33 => ⟨S_, .f32⟩
  | 34 => ⟨S8, .f32⟩
  | 35 => ⟨S8, .f32⟩
  | 36 => ⟨S4096x2x1, .i32⟩
  | 37 => ⟨S1x1x8, .i32⟩
  | 38 => ⟨S4096x2x8, .i32⟩
  | 39 => ⟨S4096x2x8, .i32⟩
  | 40 => ⟨S4096x2x8, .i1⟩
  | 41 => ⟨S4096x2x8, .f32⟩
  | 42 => ⟨S_, .f32⟩
  | 43 => ⟨S4096x8, .f32⟩
  | 44 => ⟨S_, .f32⟩
  | 45 => ⟨S8, .f32⟩
  | 46 => ⟨S_, .f32⟩
  | 47 => ⟨S8, .f32⟩
  | 48 => ⟨S8, .f32⟩
  | 49 => ⟨S8, .f32⟩
  | 50 => ⟨S_, .f32⟩
  | 51 => ⟨S_, .f32⟩
  | 52 => ⟨S_, .f32⟩
  | 53 => ⟨S_, .f32⟩
  | 54 => ⟨S_, .f32⟩
  | 55 => ⟨S4096x8, .f32⟩
  | 56 => ⟨S4096, .i32⟩
  | 57 => ⟨S4096x1, .i32⟩
  | 58 => ⟨S_, .i32⟩
  | 59 => ⟨S4096x1, .i32⟩
  | 60 => ⟨S4096x1, .i1⟩
  | 61 => ⟨S_, .i32⟩
  | 62 => ⟨S4096x1, .i32⟩
  | 63 => ⟨S4096x1, .i32⟩
  | 64 => ⟨S4096x1, .i32⟩
  | 65 => ⟨S_, .i32⟩
  | 66 => ⟨S4096x2, .i32⟩
  | 67 => ⟨S4096x2, .i1⟩
  | 68 => ⟨S_, .i32⟩
  | 69 => ⟨S4096x2, .i32⟩
  | 70 => ⟨S4096x2, .i32⟩
  | 71 => ⟨S4096x2, .i32⟩
  | 72 => ⟨S4096x2, .i32⟩
  | 73 => ⟨S4096x2x1, .i32⟩
  | 74 => ⟨S4096x2x1, .i32⟩
  | 75 => ⟨S4096x2x2, .i32⟩
  | 76 => ⟨S4096x8, .f32⟩
  | 77 => ⟨S_, .f32⟩
  | 78 => ⟨S4096x1024, .f32⟩
  | 79 => ⟨S1x1024x2688, .f32⟩
  | 80 => ⟨S1024x2688, .f32⟩
  | 81 => ⟨S4096x2688, .f32⟩
  | 82 => ⟨S4096x2688, .f32⟩
  | 83 => ⟨S4096x2688, .f32⟩
  | 84 => ⟨S_, .f32⟩
  | 85 => ⟨S4096x2688, .f32⟩
  | 86 => ⟨S4096x2688, .f32⟩
  | 87 => ⟨S_, .f32⟩
  | 88 => ⟨S4096x2688, .f32⟩
  | 89 => ⟨S4096x2688, .f32⟩
  | 90 => ⟨S4096x2688, .f32⟩
  | 91 => ⟨S1x1024x2688, .f32⟩
  | 92 => ⟨S1024x2688, .f32⟩
  | 93 => ⟨S4096x2688, .f32⟩
  | 94 => ⟨S4096x2688, .f32⟩
  | 95 => ⟨S1x2688x1024, .f32⟩
  | 96 => ⟨S2688x1024, .f32⟩
  | 97 => ⟨S4096x1024, .f32⟩
  | 98 => ⟨S4096x1, .f32⟩
  | 99 => ⟨S4096x1024, .f32⟩
  | 100 => ⟨S4096x1024, .f32⟩
  | 101 => ⟨S4096x1024, .f32⟩
  | 102 => ⟨S1x1024x2688, .f32⟩
  | 103 => ⟨S1024x2688, .f32⟩
  | 104 => ⟨S4096x2688, .f32⟩
  | 105 => ⟨S4096x2688, .f32⟩
  | 106 => ⟨S4096x2688, .f32⟩
  | 107 => ⟨S_, .f32⟩
  | 108 => ⟨S4096x2688, .f32⟩
  | 109 => ⟨S4096x2688, .f32⟩
  | 110 => ⟨S_, .f32⟩
  | 111 => ⟨S4096x2688, .f32⟩
  | 112 => ⟨S4096x2688, .f32⟩
  | 113 => ⟨S4096x2688, .f32⟩
  | 114 => ⟨S1x1024x2688, .f32⟩
  | 115 => ⟨S1024x2688, .f32⟩
  | 116 => ⟨S4096x2688, .f32⟩
  | 117 => ⟨S4096x2688, .f32⟩
  | 118 => ⟨S1x2688x1024, .f32⟩
  | 119 => ⟨S2688x1024, .f32⟩
  | 120 => ⟨S4096x1024, .f32⟩
  | 121 => ⟨S4096x1, .f32⟩
  | 122 => ⟨S4096x1024, .f32⟩
  | 123 => ⟨S4096x1024, .f32⟩
  | 124 => ⟨S4096x1024, .f32⟩
  | 125 => ⟨S1x1024x2688, .f32⟩
  | 126 => ⟨S1024x2688, .f32⟩
  | 127 => ⟨S4096x2688, .f32⟩
  | _ => ⟨S2x2048x1024, .f32⟩

abbrev hbmTy0_1 (i : Nat) : BufTy := match i % 128 with
  | 0 => ⟨S4096x2688, .f32⟩
  | 1 => ⟨S4096x2688, .f32⟩
  | 2 => ⟨S_, .f32⟩
  | 3 => ⟨S4096x2688, .f32⟩
  | 4 => ⟨S4096x2688, .f32⟩
  | 5 => ⟨S_, .f32⟩
  | 6 => ⟨S4096x2688, .f32⟩
  | 7 => ⟨S4096x2688, .f32⟩
  | 8 => ⟨S4096x2688, .f32⟩
  | 9 => ⟨S1x1024x2688, .f32⟩
  | 10 => ⟨S1024x2688, .f32⟩
  | 11 => ⟨S4096x2688, .f32⟩
  | 12 => ⟨S4096x2688, .f32⟩
  | 13 => ⟨S1x2688x1024, .f32⟩
  | 14 => ⟨S2688x1024, .f32⟩
  | 15 => ⟨S4096x1024, .f32⟩
  | 16 => ⟨S4096x1, .f32⟩
  | 17 => ⟨S4096x1024, .f32⟩
  | 18 => ⟨S4096x1024, .f32⟩
  | 19 => ⟨S4096x1024, .f32⟩
  | 20 => ⟨S1x1024x2688, .f32⟩
  | 21 => ⟨S1024x2688, .f32⟩
  | 22 => ⟨S4096x2688, .f32⟩
  | 23 => ⟨S4096x2688, .f32⟩
  | 24 => ⟨S4096x2688, .f32⟩
  | 25 => ⟨S_, .f32⟩
  | 26 => ⟨S4096x2688, .f32⟩
  | 27 => ⟨S4096x2688, .f32⟩
  | 28 => ⟨S_, .f32⟩
  | 29 => ⟨S4096x2688, .f32⟩
  | 30 => ⟨S4096x2688, .f32⟩
  | 31 => ⟨S4096x2688, .f32⟩
  | 32 => ⟨S1x1024x2688, .f32⟩
  | 33 => ⟨S1024x2688, .f32⟩
  | 34 => ⟨S4096x2688, .f32⟩
  | 35 => ⟨S4096x2688, .f32⟩
  | 36 => ⟨S1x2688x1024, .f32⟩
  | 37 => ⟨S2688x1024, .f32⟩
  | 38 => ⟨S4096x1024, .f32⟩
  | 39 => ⟨S4096x1, .f32⟩
  | 40 => ⟨S4096x1024, .f32⟩
  | 41 => ⟨S4096x1024, .f32⟩
  | 42 => ⟨S4096x1024, .f32⟩
  | 43 => ⟨S1x1024x2688, .f32⟩
  | 44 => ⟨S1024x2688, .f32⟩
  | 45 => ⟨S4096x2688, .f32⟩
  | 46 => ⟨S4096x2688, .f32⟩
  | 47 => ⟨S4096x2688, .f32⟩
  | 48 => ⟨S_, .f32⟩
  | 49 => ⟨S4096x2688, .f32⟩
  | 50 => ⟨S4096x2688, .f32⟩
  | 51 => ⟨S_, .f32⟩
  | 52 => ⟨S4096x2688, .f32⟩
  | 53 => ⟨S4096x2688, .f32⟩
  | 54 => ⟨S4096x2688, .f32⟩
  | 55 => ⟨S1x1024x2688, .f32⟩
  | 56 => ⟨S1024x2688, .f32⟩
  | 57 => ⟨S4096x2688, .f32⟩
  | 58 => ⟨S4096x2688, .f32⟩
  | 59 => ⟨S1x2688x1024, .f32⟩
  | 60 => ⟨S2688x1024, .f32⟩
  | 61 => ⟨S4096x1024, .f32⟩
  | 62 => ⟨S4096x1, .f32⟩
  | 63 => ⟨S4096x1024, .f32⟩
  | 64 => ⟨S4096x1024, .f32⟩
  | 65 => ⟨S4096x1024, .f32⟩
  | 66 => ⟨S1x1024x2688, .f32⟩
  | 67 => ⟨S1024x2688, .f32⟩
  | 68 => ⟨S4096x2688, .f32⟩
  | 69 => ⟨S4096x2688, .f32⟩
  | 70 => ⟨S4096x2688, .f32⟩
  | 71 => ⟨S_, .f32⟩
  | 72 => ⟨S4096x2688, .f32⟩
  | 73 => ⟨S4096x2688, .f32⟩
  | 74 => ⟨S_, .f32⟩
  | 75 => ⟨S4096x2688, .f32⟩
  | 76 => ⟨S4096x2688, .f32⟩
  | 77 => ⟨S4096x2688, .f32⟩
  | 78 => ⟨S1x1024x2688, .f32⟩
  | 79 => ⟨S1024x2688, .f32⟩
  | 80 => ⟨S4096x2688, .f32⟩
  | 81 => ⟨S4096x2688, .f32⟩
  | 82 => ⟨S1x2688x1024, .f32⟩
  | 83 => ⟨S2688x1024, .f32⟩
  | 84 => ⟨S4096x1024, .f32⟩
  | 85 => ⟨S4096x1, .f32⟩
  | 86 => ⟨S4096x1024, .f32⟩
  | 87 => ⟨S4096x1024, .f32⟩
  | 88 => ⟨S4096x1024, .f32⟩
  | 89 => ⟨S1x1024x2688, .f32⟩
  | 90 => ⟨S1024x2688, .f32⟩
  | 91 => ⟨S4096x2688, .f32⟩
  | 92 => ⟨S4096x2688, .f32⟩
  | 93 => ⟨S4096x2688, .f32⟩
  | 94 => ⟨S_, .f32⟩
  | 95 => ⟨S4096x2688, .f32⟩
  | 96 => ⟨S4096x2688, .f32⟩
  | 97 => ⟨S_, .f32⟩
  | 98 => ⟨S4096x2688, .f32⟩
  | 99 => ⟨S4096x2688, .f32⟩
  | 100 => ⟨S4096x2688, .f32⟩
  | 101 => ⟨S1x1024x2688, .f32⟩
  | 102 => ⟨S1024x2688, .f32⟩
  | 103 => ⟨S4096x2688, .f32⟩
  | 104 => ⟨S4096x2688, .f32⟩
  | 105 => ⟨S1x2688x1024, .f32⟩
  | 106 => ⟨S2688x1024, .f32⟩
  | 107 => ⟨S4096x1024, .f32⟩
  | 108 => ⟨S4096x1, .f32⟩
  | 109 => ⟨S4096x1024, .f32⟩
  | 110 => ⟨S4096x1024, .f32⟩
  | 111 => ⟨S4096x1024, .f32⟩
  | 112 => ⟨S1x1024x2688, .f32⟩
  | 113 => ⟨S1024x2688, .f32⟩
  | 114 => ⟨S4096x2688, .f32⟩
  | 115 => ⟨S4096x2688, .f32⟩
  | 116 => ⟨S4096x2688, .f32⟩
  | 117 => ⟨S_, .f32⟩
  | 118 => ⟨S4096x2688, .f32⟩
  | 119 => ⟨S4096x2688, .f32⟩
  | 120 => ⟨S_, .f32⟩
  | 121 => ⟨S4096x2688, .f32⟩
  | 122 => ⟨S4096x2688, .f32⟩
  | 123 => ⟨S4096x2688, .f32⟩
  | 124 => ⟨S1x1024x2688, .f32⟩
  | 125 => ⟨S1024x2688, .f32⟩
  | 126 => ⟨S4096x2688, .f32⟩
  | 127 => ⟨S4096x2688, .f32⟩
  | _ => ⟨S2x2048x1024, .f32⟩

abbrev hbmTy0_2 (i : Nat) : BufTy := match i % 128 with
  | 0 => ⟨S1x2688x1024, .f32⟩
  | 1 => ⟨S2688x1024, .f32⟩
  | 2 => ⟨S4096x1024, .f32⟩
  | 3 => ⟨S4096x1, .f32⟩
  | 4 => ⟨S4096x1024, .f32⟩
  | 5 => ⟨S4096x1024, .f32⟩
  | 6 => ⟨S4096x1024, .f32⟩
  | 7 => ⟨S2x2048x1024, .f32⟩
  | 8 => ⟨S_, .f32⟩
  | 9 => ⟨S_, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_values : Ref sig .tc := ⟨.hbm, 21, rfl⟩
abbrev main_indices : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v22 : Ref sig .tc := ⟨.hbm, 41, rfl⟩
abbrev main_cst_6 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_cst_8 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_9 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_cst_11 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c : Ref sig .tc := ⟨.hbm, 58, rfl⟩
abbrev main_v33 : Ref sig .tc := ⟨.hbm, 59, rfl⟩
abbrev main_v34 : Ref sig .tc := ⟨.hbm, 60, rfl⟩
abbrev main_c_12 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_13 : Ref sig .tc := ⟨.hbm, 65, rfl⟩
abbrev main_v38 : Ref sig .tc := ⟨.hbm, 66, rfl⟩
abbrev main_v39 : Ref sig .tc := ⟨.hbm, 67, rfl⟩
abbrev main_c_14 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_15 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_call1_v0 : Ref sig .tc := ⟨.hbm, 82, rfl⟩
abbrev main_call1_v1 : Ref sig .tc := ⟨.hbm, 83, rfl⟩
abbrev main_call1_cst : Ref sig .tc := ⟨.hbm, 84, rfl⟩
abbrev main_call1_v2 : Ref sig .tc := ⟨.hbm, 85, rfl⟩
abbrev main_call1_v3 : Ref sig .tc := ⟨.hbm, 86, rfl⟩
abbrev main_call1_cst_0 : Ref sig .tc := ⟨.hbm, 87, rfl⟩
abbrev main_call1_v4 : Ref sig .tc := ⟨.hbm, 88, rfl⟩
abbrev main_call1_v5 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_call2_v5 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_call3_v0 : Ref sig .tc := ⟨.hbm, 128, rfl⟩
abbrev main_call3_v1 : Ref sig .tc := ⟨.hbm, 129, rfl⟩
abbrev main_call3_cst : Ref sig .tc := ⟨.hbm, 130, rfl⟩
abbrev main_call3_v2 : Ref sig .tc := ⟨.hbm, 131, rfl⟩
abbrev main_call3_v3 : Ref sig .tc := ⟨.hbm, 132, rfl⟩
abbrev main_call3_cst_0 : Ref sig .tc := ⟨.hbm, 133, rfl⟩
abbrev main_call3_v4 : Ref sig .tc := ⟨.hbm, 134, rfl⟩
abbrev main_call3_v5 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_call4_v0 : Ref sig .tc := ⟨.hbm, 151, rfl⟩
abbrev main_call4_v1 : Ref sig .tc := ⟨.hbm, 152, rfl⟩
abbrev main_call4_cst : Ref sig .tc := ⟨.hbm, 153, rfl⟩
abbrev main_call4_v2 : Ref sig .tc := ⟨.hbm, 154, rfl⟩
abbrev main_call4_v3 : Ref sig .tc := ⟨.hbm, 155, rfl⟩
abbrev main_call4_cst_0 : Ref sig .tc := ⟨.hbm, 156, rfl⟩
abbrev main_call4_v4 : Ref sig .tc := ⟨.hbm, 157, rfl⟩
abbrev main_call4_v5 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_call5_v0 : Ref sig .tc := ⟨.hbm, 174, rfl⟩
abbrev main_call5_v1 : Ref sig .tc := ⟨.hbm, 175, rfl⟩
abbrev main_call5_cst : Ref sig .tc := ⟨.hbm, 176, rfl⟩
abbrev main_call5_v2 : Ref sig .tc := ⟨.hbm, 177, rfl⟩
abbrev main_call5_v3 : Ref sig .tc := ⟨.hbm, 178, rfl⟩
abbrev main_call5_cst_0 : Ref sig .tc := ⟨.hbm, 179, rfl⟩
abbrev main_call5_v4 : Ref sig .tc := ⟨.hbm, 180, rfl⟩
abbrev main_call5_v5 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_call6_v0 : Ref sig .tc := ⟨.hbm, 197, rfl⟩
abbrev main_call6_v1 : Ref sig .tc := ⟨.hbm, 198, rfl⟩
abbrev main_call6_cst : Ref sig .tc := ⟨.hbm, 199, rfl⟩
abbrev main_call6_v2 : Ref sig .tc := ⟨.hbm, 200, rfl⟩
abbrev main_call6_v3 : Ref sig .tc := ⟨.hbm, 201, rfl⟩
abbrev main_call6_cst_0 : Ref sig .tc := ⟨.hbm, 202, rfl⟩
abbrev main_call6_v4 : Ref sig .tc := ⟨.hbm, 203, rfl⟩
abbrev main_call6_v5 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_call7_v0 : Ref sig .tc := ⟨.hbm, 220, rfl⟩
abbrev main_call7_v1 : Ref sig .tc := ⟨.hbm, 221, rfl⟩
abbrev main_call7_cst : Ref sig .tc := ⟨.hbm, 222, rfl⟩
abbrev main_call7_v2 : Ref sig .tc := ⟨.hbm, 223, rfl⟩
abbrev main_call7_v3 : Ref sig .tc := ⟨.hbm, 224, rfl⟩
abbrev main_call7_cst_0 : Ref sig .tc := ⟨.hbm, 225, rfl⟩
abbrev main_call7_v4 : Ref sig .tc := ⟨.hbm, 226, rfl⟩
abbrev main_call7_v5 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_call8_v0 : Ref sig .tc := ⟨.hbm, 243, rfl⟩
abbrev main_call8_v1 : Ref sig .tc := ⟨.hbm, 244, rfl⟩
abbrev main_call8_cst : Ref sig .tc := ⟨.hbm, 245, rfl⟩
abbrev main_call8_v2 : Ref sig .tc := ⟨.hbm, 246, rfl⟩
abbrev main_call8_v3 : Ref sig .tc := ⟨.hbm, 247, rfl⟩
abbrev main_call8_cst_0 : Ref sig .tc := ⟨.hbm, 248, rfl⟩
abbrev main_call8_v4 : Ref sig .tc := ⟨.hbm, 249, rfl⟩
abbrev main_call8_v5 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_v161 : Ref sig .tc := ⟨.hbm, 255, rfl⟩
abbrev main_v162 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_v166 : Ref sig .tc := ⟨.hbm, 260, rfl⟩
abbrev main_v167 : Ref sig .tc := ⟨.hbm, 261, rfl⟩
abbrev main_v168 : Ref sig .tc := ⟨.hbm, 262, rfl⟩
abbrev main_v169 : Ref sig .tc := ⟨.hbm, 263, rfl⟩
abbrev main_cst_16 : Ref sig .tc := ⟨.hbm, 264, rfl⟩
abbrev main_v170 : Ref sig .tc := ⟨.hbm, 265, rfl⟩

abbrev nD : Nat := 1
abbrev τ : Topo := Topo.v7x

variable {F : FTy → Type} [FloatOps F]
-- ==== Proof.RouterI.lean ====
/- The router's pallas_call as a region of @main, entered from any contents of the unscoped buffers: what its body leaves in
   each output's staging buffer, its triple, and its proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### The body -/

/-- The two-entry offset vector of the body's accesses is zero. -/
theorem off2 : (![0, 0] : Fin 2 → ℕ) = fun _ => 0 := by funext a; fin_cases a <;> rfl

/-- The chosen experts the body leaves, from the tokens and the router's weights. -/
def rIdx (x0 : Vec F S4096x1024 .f32) (x1 : Vec F S1024x8 .f32) : Vec F S4096x2 .i32 := k0_pay8 x0 x1
/-- Their weights. -/
def rVal (x0 : Vec F S4096x1024 .f32) (x1 : Vec F S1024x8 .f32) : Vec F S4096x2 .f32 := k0_pay9 x0 x1
/-- The balance loss. -/
def rLoss (x0 : Vec F S4096x1024 .f32) (x1 : Vec F S1024x8 .f32) : Vec F S1x1 .f32 :=
  k0_pay1 (k0_pay2 x0 x1) (iota .tc S4096x8 32 [1] iota_S4096x8_d1_w32) (k0_pay4 x0 x1) (k0_pay7 x0 x1)

/-- A load of all the tokens reads them. -/
theorem ld_x (X : Vec F S4096x1024 .f32) (inb) : View.ld X (Rect.unit (s := S4096x1024) ![0, 0] ![4096, 1024] inb) = X :=
  View.ld_unit_zero (S := S4096x1024) off2 _ X
/-- A load of all the weights reads them. -/
theorem ld_w (X : Vec F S1024x8 .f32) (inb) : View.ld X (Rect.unit (s := S1024x8) ![0, 0] ![1024, 8] inb) = X :=
  View.ld_unit_zero (S := S1024x8) off2 _ X

/-- One store through the whole shape covers it. -/
theorem cover_whole {S : Shape} {e : EltTy} {off : Fin S.rank → ℕ} (h : off = fun _ => 0) (inb : ∀ a, off a + S.size a ≤ S.size a)
    (w : Vec F S e) (y : S.Idx) : ∃ pc ∈ ([⟨Rect.unit off S.size inb, w⟩] : List (View.Piece (Elt F) S e)), y ∈ pc.1.set :=
  ⟨_, List.mem_singleton.mpr rfl, by subst h; rw [← Rect.map_emb_univ]; exact Finset.mem_map.mpr ⟨y, Finset.mem_univ _, Rect.emb_whole_apply _ y⟩⟩

set_option maxHeartbeats 1000000 in
/-- The router's body on whole staging buffers: from the tokens and the weights it leaves the experts, the weights and the loss. -/
theorem router_triple (c : Dev nD) (E : Set ℕ) (arg0 : Memref sig .tc .vmem S4096x1024 .f32) (harg0 : arg0.IsWhole) (arg1 : Memref sig .tc .vmem S1024x8 .f32) (harg1 : arg1.IsWhole) (arg2 : Memref sig .tc .vmem S4096x2 .i32) (harg2 : arg2.IsWhole) (arg3 : Memref sig .tc .vmem S4096x2 .f32) (harg3 : arg3.IsWhole) (arg4 : Memref sig .tc .vmem S1x1 .f32) (harg4 : arg4.IsWhole)
    (x0 : Vec F S4096x1024 .f32) (x1 : Vec F S1024x8 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare (rIdx x0 x1) ∗ owns (c : Thread nD τ) arg3 fullShare (rVal x0 x1) ∗ owns (c : Thread nD τ) arg4 fullShare (rLoss x0 x1)) -∗ K ⟨⟩))
      ⊢ wp frame (wpE (defs₀ (F := F)) Variants.none c none) E (cc0__router_body arg0 harg0 arg1 harg1 arg2 harg2 arg3 harg3 arg4 harg4) K := by
  simp only [cc0__router_body_eq_skeleton]; unfold cc0__router_body_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover_whole off2 _ _)).trans ?_
    rw [View.canon_unit_zero off2]
    sl_unfold_run_names
    simp only [View.readAt_eq_ld, ld_x, ld_w, rIdx]
  isplitl [H3]
  · iexists _; isplitr
    swap; · iexact H3
    ipureintro
    refine (View.read_writes_eq_canon _ _ _ (cover_whole off2 _ _)).trans ?_
    rw [View.canon_unit_zero off2]
    sl_unfold_run_names
    simp only [View.readAt_eq_ld, ld_x, ld_w, rVal]
  iexists _; isplitr
  swap; · iexact H4
  ipureintro
  refine (View.read_writes_eq_canon _ _ _ (cover_whole off2 _ _)).trans ?_
  rw [View.canon_unit_zero off2]
  sl_unfold_run_names
  simp only [View.readAt_eq_ld, ld_x, ld_w, rLoss]

/-! ### The proof data, from any contents of the buffers at the region's entry -/

variable (W : Dev nD → Valuation τ sig (Elt F))

/-- The tokens as the fetch stages them. -/
def rX (c : Dev nD) (t : Fin cfg0.N) : Vec F S4096x1024 .f32 := ((cfg0.win 0).blk t).view.read (Elt F) (W c main_v0)
/-- The router's weights as the fetch stages them. -/
def rW (c : Dev nD) (t : Fin cfg0.N) : Vec F S1024x8 .f32 := ((cfg0.win 1).blk t).view.read (Elt F) (W c main_arg1)

/-- The proof data of the router's region. -/
def dat0 (c : Dev nD) : Dat τ (Elt F) Unit ℕ (UR sig nD τ) ℕ cfg0 c where
  A w := W c (Pipeline.arrRef spec0 w)
  after w t := match w with
    | ⟨0, _⟩ => rX W c t
    | ⟨1, _⟩ => rW W c t
    | ⟨2, _⟩ => rIdx (rX W c t) (rW W c t)
    | ⟨3, _⟩ => rVal (rX W c t) (rW W c t)
    | ⟨4, _⟩ => rLoss (rX W c t) (rW W c t)
  Φ _ := Pipeline.ΦA spec0 c
  q _ := fullShare
  owed _ := 0

theorem dat0_A (c : Dev nD) (w : Fin cfg0.W) : (dat0 W c).A w = W c (Pipeline.arrRef spec0 w) := by dsimp only [dat0]

theorem after0_0 (c : Dev nD) (t : Fin cfg0.N) : (dat0 W c).after 0 t = rX W c t := by dsimp only [dat0]
theorem after0_1 (c : Dev nD) (t : Fin cfg0.N) : (dat0 W c).after 1 t = rW W c t := by dsimp only [dat0]
theorem after0_2 (c : Dev nD) (t : Fin cfg0.N) : (dat0 W c).after 2 t = rIdx (rX W c t) (rW W c t) := by dsimp only [dat0]
theorem after0_3 (c : Dev nD) (t : Fin cfg0.N) : (dat0 W c).after 3 t = rVal (rX W c t) (rW W c t) := by dsimp only [dat0]
theorem after0_4 (c : Dev nD) (t : Fin cfg0.N) : (dat0 W c).after 4 t = rLoss (rX W c t) (rW W c t) := by dsimp only [dat0]

/-- The tokens' staging buffer holds the tokens when the body runs. -/
theorem before0_0 (c : Dev nD) (t : Fin cfg0.N) (d) : (dat0 W c).before 0 t d = rX W c t :=
  ((dat0 W c).before_in_eq_fetched 0 rfl (fun _ => rfl) (fun _ _ _ => rfl) (fun t => by rw [after0_0]; unfold Dat.blockOf rX; rw [dat0_A]; try rfl) t d).trans
    (by unfold Dat.fetched Dat.blockOf rX; rw [dat0_A]; try rfl)
/-- The weights' staging buffer holds the weights. -/
theorem before0_1 (c : Dev nD) (t : Fin cfg0.N) (d) : (dat0 W c).before 1 t d = rW W c t :=
  ((dat0 W c).before_in_eq_fetched 1 rfl (fun _ => rfl) (fun _ _ _ => rfl) (fun t => by rw [after0_1]; unfold Dat.blockOf rW; rw [dat0_A]; try rfl) t d).trans
    (by unfold Dat.fetched Dat.blockOf rW; rw [dat0_A]; try rfl)

/-- What the body is called with, window by window, -/
def pre0At (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d))
    ∗ (∃ d, owns (c : Thread nD τ) (st0_4 t) fullShare ((dat0 W c).before 4 t d)))

/-- and what it returns. -/
def post0At (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t)
    ∗ owns (c : Thread nD τ) (st0_3 t) fullShare ((dat0 W c).after 3 t)
    ∗ owns (c : Thread nD τ) (st0_4 t) fullShare ((dat0 W c).after 4 t))

/-- The body at any point runs from the one to the other. -/
theorem body0_sound (c : Dev nD) (t : Fin cfg0.N) :
    pre0At W c t ⊢ wp frame (wpE (defs₀ (F := F)) Variants.none c none) Set.univ (bodyAt0 t) (fun _ => post0At W c t) := by
  unfold pre0At post0At bodyAt0
  simp only [before0_0, before0_1]
  rw [show (dat0 W c).Φ t.succ = (dat0 W c).Φ t.castSucc from rfl,
    show (dat0 W c).owesAt () t.succ = (dat0 W c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (router_triple c Set.univ _ _ _ _ _ _ _ _ _ _ (rX W c t) (rW W c t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at the point's buffers is the body. -/
theorem defs₀_row0 (t : Fin cfg0.N) : defs₀ (F := F) .tc cfg0.body (cfg0.bodyArgs t (cfg0.slots t)) = bodyAt0 t := by
  unfold defs₀; rw [Defs.onTc_tc]

/-- The router's body meets its obligation at every point. -/
theorem body0_obligation (c : Dev nD) : BodyObligation (dat0 (F := F) W c) (defs₀ (F := F)) Variants.none () Set.univ := fun t => by
  rw [bigSep_W0, bigSep_W0, defs₀_row0]
  exact triple_restated (body0_sound W c t) rfl .rfl fun _ => .rfl

end Cert.KernelIdeal.Own

end
-- ==== Proof.GemmBodyI.lean ====
/- One call of the grouped matrix product's body: what it leaves in the accumulator and in the output's staging buffer, by
   which of its three conditions hold. -/
module

public import proofs.«01_k».proof.Proof.RouterI

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tables as the body is handed them. -/
abbrev tbM0 : Memref sig .tc .smem S40 .i32 := Memref.whole main_v72
abbrev tbM1 : Memref sig .tc .smem S1 .i32 := Memref.whole main_v75
abbrev TbBuf (c : Dev nD) {S : Shape} {e : EltTy} (M : Memref sig .tc .smem S e) : Type := Buf (Elt F) (M.view.loc (c : Thread nD τ))
/-- A table's buffer held whole. -/
abbrev tbPt (c : Dev nD) {S : Shape} {e : EltTy} (M : Memref sig .tc .smem S e) (f : TbBuf (F := F) c M) : sProp 𝕄 :=
  M.view.loc (c : Thread nD τ) ↦{fullShare} f

/-- The call is the first of its block's three. -/
abbrev cFirst (i : grid1.Coords) : Prop := (Scalar.cmpi .ne (Scalar.extui (Scalar.cmpi .eq (BitVec.ofNat 32 (i 1).val) 0#32)) 0#32) = 1#1
/-- The call's block is in use: its number is below the count of used blocks. -/
abbrev cLive (i : grid1.Coords) (w : BitVec 32) : Prop := (Scalar.cmpi .ne (Scalar.extui (Scalar.cmpi .slt (BitVec.ofNat 32 (i 0).val) w)) 0#32) = 1#1
/-- The call is the last of its block's three. -/
abbrev cLast (i : grid1.Coords) : Prop := k1_cond3 i = 1#1
/-- The count of used blocks as the body reads it. -/
abbrev usedWord (c : Dev nD) (xt1 : TbBuf (F := F) c tbM1) : BitVec 32 :=
  tbM1.view.readAt (Elt F) (Rect.unit (s := S1) ![0] S1.size inb_S1_S1_0).toLoadRect xt1 (Shape.Idx.first (numel1_S1.symm ▸ Nat.one_pos))

/-- What a call leaves in the accumulator, from what it held: zeroed at a block's first call, then, in a block in use, the
    slice's product added. -/
def gNext (first live : Prop) [Decidable first] [Decidable live] (x0 : Vec F S256x1024 .f32) (x1 x2 : Vec F S1x1024x896 .f32)
    (x3 : Vec F S1x896x1024 .f32) (xs : Vec F S256x1024 .f32) : Vec F S256x1024 .f32 :=
  if live then k1_pay2 x0 x1 x2 (if first then k1_pay1 else xs) x3 else (if first then k1_pay1 else xs)

/-- The three-entry offset vector of the body's accesses is zero. -/
theorem off3 : (![0, 0, 0] : Fin 3 → ℕ) = fun _ => 0 := by funext a; fin_cases a <;> rfl

theorem ld_a (X : Vec F S256x1024 .f32) (inb) : View.ld X (Rect.unit (s := S256x1024) ![0, 0] ![256, 1024] inb) = X :=
  View.ld_unit_zero (S := S256x1024) off2 _ X
theorem ld_g (X : Vec F S1x1024x896 .f32) (inb) : View.ld X (Rect.unit (s := S1x1024x896) ![0, 0, 0] ![1, 1024, 896] inb) = X :=
  View.ld_unit_zero (S := S1x1024x896) off3 _ X
theorem ld_d (X : Vec F S1x896x1024 .f32) (inb) : View.ld X (Rect.unit (s := S1x896x1024) ![0, 0, 0] ![1, 896, 1024] inb) = X :=
  View.ld_unit_zero (S := S1x896x1024) off3 _ X
theorem ld_s (X : Vec F S256x1 .f32) (inb) : View.ld X (Rect.unit (s := S256x1) ![0, 0] ![256, 1] inb) = X :=
  View.ld_unit_zero (S := S256x1) off2 _ X

/-- A list of stores whose last is through the whole shape covers it. -/
theorem cover_whole_cons {S : Shape} {e : EltTy} {off : Fin S.rank → ℕ} (h : off = fun _ => 0) (inb : ∀ a, off a + S.size a ≤ S.size a)
    (w : Vec F S e) (L : List (View.Piece (Elt F) S e)) (y : S.Idx) :
    ∃ pc ∈ ((⟨Rect.unit off S.size inb, w⟩ : View.Piece (Elt F) S e) :: L), y ∈ pc.1.set :=
  ⟨_, List.mem_cons_self, by subst h; rw [← Rect.map_emb_univ]; exact Finset.mem_map.mpr ⟨y, Finset.mem_univ _, Rect.emb_whole_apply _ y⟩⟩

/-- What a view reads after stores whose last is through the whole shape is that store's payload. -/
theorem read_stored {sp : Space} (v : View sig .tc sp S256x1024 .f32) (f : v.ty.Contents (Elt F)) (inb)
    (w : Vec F S256x1024 .f32) (L : List (View.Piece (Elt F) S256x1024 .f32)) :
    v.read (Elt F) (v.writes (Elt F) f ((⟨Rect.unit (s := S256x1024) ![0, 0] ![256, 1024] inb, w⟩ : View.Piece (Elt F) S256x1024 .f32) :: L)) = w :=
  (View.read_writes_eq_canon _ _ _ (cover_whole_cons (S := S256x1024) off2 inb w L)).trans
    (View.canon_cons_unit_zero (S := S256x1024) off2 inb w L)
theorem readCov_stored {sp : Space} (v : View sig .tc sp S256x1024 .f32) (inb)
    (w : Vec F S256x1024 .f32) (L : List (View.Piece (Elt F) S256x1024 .f32)) (inb') :
    v.readCov ((⟨Rect.unit (s := S256x1024) ![0, 0] ![256, 1024] inb, w⟩ : View.Piece (Elt F) S256x1024 .f32) :: L)
      (Rect.unit (s := S256x1024) ![0, 0] ![256, 1024] inb').toLoadRect = w :=
  ((View.readCov_eq_canon_ld _ _ _ (cover_whole_cons (S := S256x1024) off2 inb w L)).trans (ld_a _ _)).trans
    (View.canon_cons_unit_zero (S := S256x1024) off2 inb w L)

set_option maxHeartbeats 4000000 in
/-- The body's triple: the inputs and tables as they were, the accumulator at `gNext`, the output's buffer at the scaled
    accumulator at a block's last call and as it was otherwise. -/
theorem gemm_triple (c : Dev nD) (E : Set ℕ) (i : grid1.Coords) (arg4 : Memref sig .tc .vmem S256x1024 .f32) (harg4 : arg4.IsWhole) (arg5 : Memref sig .tc .vmem S1x1024x896 .f32) (harg5 : arg5.IsWhole) (arg6 : Memref sig .tc .vmem S1x1024x896 .f32) (harg6 : arg6.IsWhole) (arg7 : Memref sig .tc .vmem S1x896x1024 .f32) (harg7 : arg7.IsWhole) (arg8 : Memref sig .tc .vmem S256x1 .f32) (harg8 : arg8.IsWhole) (arg9 : Memref sig .tc .vmem S256x1024 .f32) (harg9 : arg9.IsWhole) (arg10 : Memref sig .tc .vmem S256x1024 .f32) (harg10 : arg10.IsWhole)
    (x0 : Vec F S256x1024 .f32) (x1 : Vec F S1x1024x896 .f32) (x2 : Vec F S1x1024x896 .f32) (x3 : Vec F S1x896x1024 .f32) (x4 : Vec F S256x1 .f32)
    (xo xs : Vec F S256x1024 .f32) (xt0 : TbBuf (F := F) c tbM0) (xt1 : TbBuf (F := F) c tbM1) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xo ∗ owns (c : Thread nD τ) arg10 fullShare xs ∗ tbPt c tbM0 xt0 ∗ tbPt c tbM1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
            ∗ owns (c : Thread nD τ) arg9 fullShare (if cLast i then k1_pay3 (gNext (cFirst i) (cLive i (usedWord c xt1)) x0 x1 x2 x3 xs) x4 else xo)
            ∗ owns (c : Thread nD τ) arg10 fullShare (gNext (cFirst i) (cLive i (usedWord c xt1)) x0 x1 x2 x3 xs) ∗ tbPt c tbM0 xt0 ∗ tbPt c tbM1 xt1) -∗ K ⟨⟩))
      ⊢ wp frame (wpE (defs₀ (F := F)) Variants.none c none) E (cc1__gemm_body i tbM0 (Memref.isWhole_whole _) tbM1 (Memref.isWhole_whole _) arg4 harg4 arg5 harg5 arg6 harg6 arg7 harg7 arg8 harg8 arg9 harg9 arg10 harg10) K := by
  simp only [cc1__gemm_body_eq_skeleton]; unfold cc1__gemm_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT0, HT1, Hk⟩
  subst hf0 hf1 hf2 hf3 hf4 hf5 hfs
  by_cases hc0 : cFirst i <;> by_cases hc1 : cLive i (usedWord c xt1) <;> by_cases hc2 : cLast i
  all_goals
    sl_exec (disch := first | sl_exact hc0 | sl_exact hc1 | sl_exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      sl_unfold_run_names
      unfold gNext
      (try rw [if_pos hc2]); (try rw [if_neg hc2]); (try rw [if_pos hc1]); (try rw [if_neg hc1]); (try rw [if_pos hc0]); (try rw [if_neg hc0])
      (try simp only [read_stored, readCov_stored, View.readAt_eq_ld, ld_a, ld_g, ld_d, ld_s]); done
    isplitl [HS]
    · iexists _; isplitr
      swap; · iexact HS
      ipureintro
      sl_unfold_run_names
      unfold gNext
      (try rw [if_pos hc2]); (try rw [if_neg hc2]); (try rw [if_pos hc1]); (try rw [if_neg hc1]); (try rw [if_pos hc0]); (try rw [if_neg hc0])
      (try simp only [read_stored, readCov_stored, View.readAt_eq_ld, ld_a, ld_g, ld_d, ld_s]); done
    isplitl [HT0]; · iexact HT0
    iexact HT1

end Cert.KernelIdeal.Own

end
-- ==== Proof.GemmI.lean ====
/- The grouped matrix product's pallas_call as a region of @main, entered from any contents of the unscoped buffers and any
   admissible tables: what the accumulator holds after each point, the proof data, and the body's obligation. -/
module

public import proofs.«01_k».proof.Proof.GemmBodyI

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### Where the conditions hold -/

/-- A point is the first of its block's three where its number is a multiple of three. -/
theorem cFirst_iff (t : Fin grid1.N) : cFirst (grid1.coords t) ↔ t.val % 3 = 0 := by
  have ht : t.val < 120 := Nat.lt_of_lt_of_eq t.isLt N_1
  have e0 : (grid1.coords t 0).val = t.val / 3 % 40 := Pipeline.Grid.coords_val t 0 (by decide) rfl
  have e1 : (grid1.coords t 1).val = t.val / 1 % 3 := Pipeline.Grid.coords_val t 1 (by decide) rfl
  simp only [cFirst, e0, e1]
  word_cmp

/-- A point is the last of its block's three where its number is two more than a multiple of three. -/
theorem cLast_iff (t : Fin grid1.N) : cLast (grid1.coords t) ↔ t.val % 3 = 2 := by
  have ht : t.val < 120 := Nat.lt_of_lt_of_eq t.isLt N_1
  have e0 : (grid1.coords t 0).val = t.val / 3 % 40 := Pipeline.Grid.coords_val t 0 (by decide) rfl
  have e1 : (grid1.coords t 1).val = t.val / 1 % 3 := Pipeline.Grid.coords_val t 1 (by decide) rfl
  simp only [cLast, k1_cond3, e0, e1]
  word_cmp

variable (a : (pcfg1 (F := F)).Adm)

/-- The output is written back at a block's last point. -/
theorem flush1_5 : ∀ t : Fin (cfg1 a).N, ((cfg1 a).win 5).flush t = true ↔ t.val % 3 = 2 :=
  (fun t => Pipeline.Window.flushOf_reads cc1_transform_5 reads1_5 hreads1_5 0 (by decide) (by decide) (Pipeline.Window.sep_of_coord cc1_transform_5 0 0 (fun _ => rfl) (by decide)) (P := 3) (m := 2) (by decide) rfl t : ∀ t : Fin grid1.N, Pipeline.Window.flushOf grid1 true cc1_transform_5 t = true ↔ t.val % 3 = 2)

/-- The output's window is idle except at a block's last point. -/
theorem idle1_5 (t : Fin (cfg1 a).N) : (cfg1 a).idle 5 ((cfg1 a).grid.coords t) = true ↔ ¬ t.val % 3 = 2 := by
  rw [← cLast_iff t]
  show (!(k1_cond3 (grid1.coords t) == 1#1)) = true ↔ _
  simp [cLast]

/-- The body as the pipeline calls it at point `t`. -/
abbrev bodyAt1 (t : Fin (cfg1 a).N) : Prog (TpuEff nD τ sig (Elt F) Λ₀ .tc) PUnit :=
  cc1__gemm_body (grid1.coords t) (Memref.whole main_v72) (Memref.isWhole_whole _) (Memref.whole main_v75) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (spec1_5.stage ((cfg1 a).slots t 5)) (hstage1_5 (((cfg1 a).slots t 5).cast nbuf1_5)) (Memref.whole cc1_scratch0) (Memref.isWhole_whole _)

abbrev m1_0 (t : Fin (cfg1 a).N) : Memref sig .tc .vmem S256x1024 .f32 := spec1_0.stage ((cfg1 a).slots t 0)
abbrev m1_1 (t : Fin (cfg1 a).N) : Memref sig .tc .vmem S1x1024x896 .f32 := spec1_1.stage ((cfg1 a).slots t 1)
abbrev m1_2 (t : Fin (cfg1 a).N) : Memref sig .tc .vmem S1x1024x896 .f32 := spec1_2.stage ((cfg1 a).slots t 2)
abbrev m1_3 (t : Fin (cfg1 a).N) : Memref sig .tc .vmem S1x896x1024 .f32 := spec1_3.stage ((cfg1 a).slots t 3)
abbrev m1_4 (t : Fin (cfg1 a).N) : Memref sig .tc .vmem S256x1 .f32 := spec1_4.stage ((cfg1 a).slots t 4)
abbrev m1_5 (t : Fin (cfg1 a).N) : Memref sig .tc .vmem S256x1024 .f32 := spec1_5.stage ((cfg1 a).slots t 5)
abbrev scM : Memref sig .tc .vmem S256x1024 .f32 := Memref.whole cc1_scratch0

/-! ### The accumulator point by point -/

variable (W : Dev nD → Valuation τ sig (Elt F))

/-- Window `w`'s block at point `t`, read off its array. -/
def blk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (W c (Pipeline.arrRef spec1 w))

/-- The block of rows of a point. -/
def gX (c : Dev nD) (t : Fin (cfg1 a).N) : Vec F S256x1024 .f32 := blk1 a W c 0 t
/-- The point's slice of the gate weights, -/
def gG (c : Dev nD) (t : Fin (cfg1 a).N) : Vec F S1x1024x896 .f32 := blk1 a W c 1 t
/-- of the up weights, -/
def gU (c : Dev nD) (t : Fin (cfg1 a).N) : Vec F S1x1024x896 .f32 := blk1 a W c 2 t
/-- and of the down weights. -/
def gD (c : Dev nD) (t : Fin (cfg1 a).N) : Vec F S1x896x1024 .f32 := blk1 a W c 3 t
/-- The rows' weights. -/
def gS (c : Dev nD) (t : Fin (cfg1 a).N) : Vec F S256x1 .f32 := blk1 a W c 4 t

/-- The point's block is in use. -/
abbrev liveAt (c : Dev nD) (t : Fin (cfg1 a).N) : Prop := cLive (grid1.coords t) (usedWord (F := F) c (a.1 1))

/-- The accumulator after the first `n` points. -/
def accN (c : Dev nD) : ℕ → Vec F S256x1024 .f32
  | 0 => k1_pay1
  | n + 1 => if h : n < (cfg1 a).N then
      gNext (n % 3 = 0) (liveAt a c ⟨n, h⟩) (gX a W c ⟨n, h⟩) (gG a W c ⟨n, h⟩) (gU a W c ⟨n, h⟩) (gD a W c ⟨n, h⟩) (accN c n)
    else k1_pay1

theorem accN_succ (c : Dev nD) (t : Fin (cfg1 a).N) :
    accN a W c (t.val + 1) = gNext (t.val % 3 = 0) (liveAt a c t) (gX a W c t) (gG a W c t) (gU a W c t) (gD a W c t) (accN a W c t.val) := by
  rw [accN, dif_pos t.isLt]

/-- At a block's first point what the accumulator held does not matter. -/
theorem gNext_first {p q : Prop} [Decidable p] [Decidable q] (hp : p) (x0 : Vec F S256x1024 .f32) (x1 x2 : Vec F S1x1024x896 .f32) (x3 : Vec F S1x896x1024 .f32)
    (xs xs' : Vec F S256x1024 .f32) : gNext p q x0 x1 x2 x3 xs = gNext p q x0 x1 x2 x3 xs' := by
  unfold gNext; rw [if_pos hp, if_pos hp]

theorem gNext_congr {p p' q : Prop} [Decidable p] [Decidable p'] [Decidable q] (h : p ↔ p') (x0 : Vec F S256x1024 .f32) (x1 x2 : Vec F S1x1024x896 .f32) (x3 : Vec F S1x896x1024 .f32)
    (xs : Vec F S256x1024 .f32) : gNext p q x0 x1 x2 x3 xs = gNext p' q x0 x1 x2 x3 xs := by
  unfold gNext; by_cases hp : p
  · rw [if_pos hp, if_pos (h.mp hp)]
  · rw [if_neg hp, if_neg fun h' => hp (h.mpr h')]

/-- The scoped buffers the region neither stages nor works in. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f))

theorem sepAssoc (P Q R : sProp 𝕄) : iprop((P ∗ Q) ∗ R) = iprop(P ∗ Q ∗ R) := equiv_iff.mp ⟨BI.sep_assoc, BI.sep_assoc'⟩

/-- The scoped rest is those and the accumulator. -/
theorem scopedRest1_split (c : Dev nD) :
    (Pipeline.scopedRest spec1 c : sProp 𝕄) = iprop(otherScoped c ∗ (∃ d, owns (c : Thread nD τ) scM fullShare d)) := by
  rw [scopedRest1_eq]; unfold otherScoped; simp only [scM, owns_whole, sepAssoc]; rfl

/-- What holds before point `n`: the accumulator as the points left it, where the block is under way, the tables, and the rest. -/
def Phi1 (c : Dev nD) (n : ℕ) : sProp 𝕄 :=
  iprop((∃ d, ⌜n % 3 ≠ 0 → d = accN a W c n⌝ ∗ owns (c : Thread nD τ) scM fullShare d)
    ∗ otherScoped c ∗ (∃ r, prngReg c r) ∗ tbPt c tbM0 (a.1 0) ∗ tbPt c tbM1 (a.1 1))

/-- The proof data of the region. -/
def dat1 (c : Dev nD) : Dat τ (Elt F) Unit ℕ (UR sig nD τ) ℕ (cfg1 a) c where
  A w := W c (Pipeline.arrRef spec1 w)
  after w t := match w with
    | ⟨0, _⟩ => blk1 a W c 0 t
    | ⟨1, _⟩ => blk1 a W c 1 t
    | ⟨2, _⟩ => blk1 a W c 2 t
    | ⟨3, _⟩ => blk1 a W c 3 t
    | ⟨4, _⟩ => blk1 a W c 4 t
    | ⟨5, _⟩ => k1_pay3 (accN a W c (t.val + 1)) (gS a W c t)
  Φ t := Phi1 a W c t.val
  q _ := fullShare
  owed _ := 0

theorem dat1_A (c : Dev nD) (w : Fin (cfg1 a).W) : (dat1 a W c).A w = W c (Pipeline.arrRef spec1 w) := by dsimp only [dat1]
theorem dat1_Phi (c : Dev nD) (t : Fin ((cfg1 a).N + 1)) : (dat1 a W c).Φ t = Phi1 a W c t.val := by dsimp only [dat1]

theorem after1_0 (c : Dev nD) (t : Fin (cfg1 a).N) : (dat1 a W c).after 0 t = blk1 a W c 0 t := by dsimp only [dat1]; rfl
theorem after1_1 (c : Dev nD) (t : Fin (cfg1 a).N) : (dat1 a W c).after 1 t = blk1 a W c 1 t := by dsimp only [dat1]; rfl
theorem after1_2 (c : Dev nD) (t : Fin (cfg1 a).N) : (dat1 a W c).after 2 t = blk1 a W c 2 t := by dsimp only [dat1]; rfl
theorem after1_3 (c : Dev nD) (t : Fin (cfg1 a).N) : (dat1 a W c).after 3 t = blk1 a W c 3 t := by dsimp only [dat1]; rfl
theorem after1_4 (c : Dev nD) (t : Fin (cfg1 a).N) : (dat1 a W c).after 4 t = blk1 a W c 4 t := by dsimp only [dat1]; rfl
theorem after1_5 (c : Dev nD) (t : Fin (cfg1 a).N) : (dat1 a W c).after 5 t = k1_pay3 (accN a W c (t.val + 1)) (gS a W c t) := by dsimp only [dat1]; rfl

/-- Each input's staging buffer holds its block when the body runs. -/
theorem before1_0 (c : Dev nD) (t : Fin (cfg1 a).N) (d) : (dat1 a W c).before 0 t d = blk1 a W c 0 t :=
  ((dat1 a W c).before_in_eq_fetched 0 rfl (fun _ => rfl) (fun _ _ _ => rfl) (fun t => by rw [after1_0]; unfold Dat.blockOf blk1; rw [dat1_A]; try rfl) t d).trans
    (by unfold Dat.fetched Dat.blockOf blk1; rw [dat1_A]; try rfl)
theorem before1_1 (c : Dev nD) (t : Fin (cfg1 a).N) (d) : (dat1 a W c).before 1 t d = blk1 a W c 1 t :=
  ((dat1 a W c).before_in_eq_fetched 1 rfl (fun _ => rfl) (fun _ _ _ => rfl) (fun t => by rw [after1_1]; unfold Dat.blockOf blk1; rw [dat1_A]; try rfl) t d).trans
    (by unfold Dat.fetched Dat.blockOf blk1; rw [dat1_A]; try rfl)
theorem before1_2 (c : Dev nD) (t : Fin (cfg1 a).N) (d) : (dat1 a W c).before 2 t d = blk1 a W c 2 t :=
  ((dat1 a W c).before_in_eq_fetched 2 rfl (fun _ => rfl) (fun _ _ _ => rfl) (fun t => by rw [after1_2]; unfold Dat.blockOf blk1; rw [dat1_A]; try rfl) t d).trans
    (by unfold Dat.fetched Dat.blockOf blk1; rw [dat1_A]; try rfl)
theorem before1_3 (c : Dev nD) (t : Fin (cfg1 a).N) (d) : (dat1 a W c).before 3 t d = blk1 a W c 3 t :=
  ((dat1 a W c).before_in_eq_fetched 3 rfl (fun _ => rfl) (fun _ _ _ => rfl) (fun t => by rw [after1_3]; unfold Dat.blockOf blk1; rw [dat1_A]; try rfl) t d).trans
    (by unfold Dat.fetched Dat.blockOf blk1; rw [dat1_A]; try rfl)
theorem before1_4 (c : Dev nD) (t : Fin (cfg1 a).N) (d) : (dat1 a W c).before 4 t d = blk1 a W c 4 t :=
  ((dat1 a W c).before_in_eq_fetched 4 rfl (fun _ => rfl) (fun _ _ _ => rfl) (fun t => by rw [after1_4]; unfold Dat.blockOf blk1; rw [dat1_A]; try rfl) t d).trans
    (by unfold Dat.fetched Dat.blockOf blk1; rw [dat1_A]; try rfl)

/-! ### The body's obligation -/

/-- What the body is called with at point `t`, window by window, -/
def pre1At (c : Dev nD) (t : Fin (cfg1 a).N) : sProp 𝕄 :=
  iprop((dat1 a W c).Φ t.castSucc ∗ (dat1 a W c).owesAt () t.castSucc
    ∗ (∃ d, owns (c : Thread nD τ) (m1_0 a t) fullShare ((dat1 a W c).before 0 t d))
    ∗ (∃ d, owns (c : Thread nD τ) (m1_1 a t) fullShare ((dat1 a W c).before 1 t d))
    ∗ (∃ d, owns (c : Thread nD τ) (m1_2 a t) fullShare ((dat1 a W c).before 2 t d))
    ∗ (∃ d, owns (c : Thread nD τ) (m1_3 a t) fullShare ((dat1 a W c).before 3 t d))
    ∗ (∃ d, owns (c : Thread nD τ) (m1_4 a t) fullShare ((dat1 a W c).before 4 t d))
    ∗ (∃ d, owns (c : Thread nD τ) (m1_5 a t) fullShare ((dat1 a W c).before 5 t d)))

/-- and what it returns. -/
def post1At (c : Dev nD) (t : Fin (cfg1 a).N) : sProp 𝕄 :=
  iprop((dat1 a W c).Φ t.succ ∗ (dat1 a W c).owesAt () t.succ
    ∗ owns (c : Thread nD τ) (m1_0 a t) fullShare ((dat1 a W c).after 0 t)
    ∗ owns (c : Thread nD τ) (m1_1 a t) fullShare ((dat1 a W c).after 1 t)
    ∗ owns (c : Thread nD τ) (m1_2 a t) fullShare ((dat1 a W c).after 2 t)
    ∗ owns (c : Thread nD τ) (m1_3 a t) fullShare ((dat1 a W c).after 3 t)
    ∗ owns (c : Thread nD τ) (m1_4 a t) fullShare ((dat1 a W c).after 4 t)
    ∗ (dat1 a W c).leavesExact 5 t)

theorem owns_ite_pos {p : Prop} [Decidable p] (hp : p) (c : Dev nD) (M : Memref sig .tc .vmem S256x1024 .f32) (x y : Vec F S256x1024 .f32) :
    (owns (c : Thread nD τ) M fullShare (if p then x else y) : sProp 𝕄) ⊢ owns (c : Thread nD τ) M fullShare x := by rw [if_pos hp]
theorem owns_ite_neg {p : Prop} [Decidable p] (hp : ¬p) (c : Dev nD) (M : Memref sig .tc .vmem S256x1024 .f32) (x y : Vec F S256x1024 .f32) :
    (owns (c : Thread nD τ) M fullShare (if p then x else y) : sProp 𝕄) ⊢ owns (c : Thread nD τ) M fullShare y := by rw [if_neg hp]

/-- What the accumulator holds after a point, whatever it held where the block starts. -/
theorem acc_step (c : Dev nD) (t : Fin (cfg1 a).N) (d : Vec F S256x1024 .f32) (hd : t.val % 3 ≠ 0 → d = accN a W c t.val) :
    gNext (cFirst (grid1.coords t)) (liveAt a c t) (gX a W c t) (gG a W c t) (gU a W c t) (gD a W c t) d = accN a W c (t.val + 1) := by
  rw [accN_succ, gNext_congr (cFirst_iff t)]
  by_cases h : t.val % 3 = 0
  · exact gNext_first h _ _ _ _ _ _
  · rw [hd h]

set_option maxHeartbeats 1000000 in
/-- The body at any point runs from the one to the other. -/
theorem body1_sound (c : Dev nD) (t : Fin (cfg1 a).N) :
    pre1At a W c t ⊢ wp frame (wpE (defs₀ (F := F)) Variants.none c none) Set.univ (bodyAt1 a t) (fun _ => post1At a W c t) := by
  unfold pre1At post1At bodyAt1
  simp only [before1_0, before1_1, before1_2, before1_3, before1_4]
  rw [dat1_Phi, dat1_Phi, show (dat1 a W c).owesAt () t.succ = (dat1 a W c).owesAt () t.castSucc from rfl,
    after1_0, after1_1, after1_2, after1_3, after1_4, Fin.val_castSucc, Fin.val_succ]
  unfold Phi1
  iintro ⟨⟨⟨%ds, %hds, HS⟩, Hoth, Hp, HT0, HT1⟩, Ho, ⟨%d0, H0⟩, ⟨%d1, H1⟩, ⟨%d2, H2⟩, ⟨%d3, H3⟩, ⟨%d4, H4⟩, ⟨%d5, H5⟩⟩
  have hacc := acc_step a W c t ds hds
  iapply (gemm_triple c Set.univ (grid1.coords t) _ _ _ _ _ _ _ _ _ _ _ _ _ _ (gX a W c t) (gG a W c t) (gU a W c t) (gD a W c t) (gS a W c t) ((dat1 a W c).before 5 t d5) ds (a.1 0) (a.1 1) _)
  rw [hacc]
  isplitl [H0]; · iexact H0
  isplitl [H1]; · iexact H1
  isplitl [H2]; · iexact H2
  isplitl [H3]; · iexact H3
  isplitl [H4]; · iexact H4
  isplitl [H5]; · iexact H5
  isplitl [HS]; · iexact HS
  isplitl [HT0]; · iexact HT0
  isplitl [HT1]; · iexact HT1
  iintro ⟨H0, H1, H2, H3, H4, H5, HS, HT0, HT1⟩
  isplitl [HS Hoth Hp HT0 HT1]
  · isplitl [HS]
    · iexists _; isplitr
      swap; · iexact HS
      ipureintro; intro _; rfl
    isplitl [Hoth]; · iexact Hoth
    isplitl [Hp]; · iexact Hp
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  by_cases h2 : t.val % 3 = 2
  · have hi : (cfg1 a).idle 5 ((cfg1 a).grid.coords t) = false := by
      rw [← Bool.not_eq_true, idle1_5]; exact fun h => h h2
    rw [show (dat1 a W c).leavesExact 5 t = owns (c : Thread nD τ) (m1_5 a t) fullShare ((dat1 a W c).after 5 t) from by
      unfold Dat.leavesExact; rw [hi]; try rfl]
    rw [after1_5]
    iapply (owns_ite_pos ((cLast_iff t).mpr h2) c _ _ _)
    iexact H5
  · have hi : (cfg1 a).idle 5 ((cfg1 a).grid.coords t) = true := (idle1_5 a t).mpr h2
    have hf : ((cfg1 a).win 5).flush t = false := by
      rw [← Bool.not_eq_true, flush1_5]; exact h2
    rw [(dat1 a W c).leavesExact_idle 5 t hi hf]
    iexists d5
    iapply (owns_ite_neg (fun h => h2 ((cLast_iff t).mp h)) c _ _ _)
    iexact H5

/-- The body table's row at the point's buffers is the body. -/
theorem defs₀_row1 (t : Fin (cfg1 a).N) : defs₀ (F := F) .tc (cfg1 a).body ((cfg1 a).bodyArgs t ((cfg1 a).slots t)) = bodyAt1 a t := by
  unfold defs₀; rw [Defs.onTc_tc]

/-- The body meets its obligation at every point. -/
theorem body1_obligation (c : Dev nD) : BodyObligation (dat1 (F := F) a W c) (defs₀ (F := F)) Variants.none () Set.univ := fun t => by
  rw [bigSep_W1, bigSep_W1, defs₀_row1]
  exact triple_restated (body1_sound a W c t) rfl .rfl fun _ => .rfl

end Cert.KernelIdeal.Own

end
-- ==== Proof.HostTabI.lean ====
/- The blocks' experts: the words the host hands the grouped product as its table are below eight, whatever the routing. -/
module

public import proofs.«01_k».proof.Proof.GemmI
public import proofs.«01_k».proof.Proof.Gen.KernelIdeal.Regions
public import Idealize.ShloMosaic.Lib.StableHlo.RunRead
public import Idealize.ShloMosaic.Lib.IndicatorCount

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.ShloMosaic.StableHlo

variable {F : FTy → Type} [FloatOps F]

/-- The blocks' experts from the experts' running padded sizes. -/
def blockExpert (v60 : IVec S8 32) : IVec S40 32 :=
  minsi (Host.reduce IntOp.addi (extui 32 (cmpi .sge (broadcastInDim S40x8 ![0, 1] bcast_S40x1_S40x8_0_1 (broadcastInDim S40x1 ![0] bcast_S40_S40x1_0 (muli (iotaInDim S40 32 0) (broadcastInDim S40 ![] bcast_S_S40 (constantI S_ 32 256#32)))))
    (broadcastInDim S40x8 ![0, 1] bcast_S1x8_S40x8_0_1 (broadcastInDim S1x8 ![1] bcast_S8_S1x8_1 v60))) natLt_1_32) (constantI S_ 32 0#32) reducesTo_S40x8_S40_d1 h_S_)
    (broadcastInDim S40 ![] bcast_S_S40 (constantI S_ 32 7#32))

theorem read_v72 (V : Valuation τ sig (Elt F)) : after hostOps1_12 V main_v72 = blockExpert (V main_v60) := by
  after_reads_simp; try rfl

/-- A word that is not negative, and at most seven after the smaller of it and seven is taken. -/
theorem minsi_seven (x : BitVec 32) (h : x.toNat < 2 ^ 31) : (IntOp.minsi x 7#32).toNat = min x.toNat 7 := by
  have h7 : (7#32 : BitVec 32).toInt = 7 := by decide
  have hx : x.toInt = x.toNat := by rw [BitVec.toInt_eq_toNat_cond, if_pos (by omega)]
  have hs : x.slt 7#32 = decide ((x.toNat : ℤ) < 7) := by rw [← hx, ← h7]; rfl
  unfold IntOp.minsi
  rw [hs]
  by_cases hl : (x.toNat : ℤ) < 7
  · rw [decide_eq_true hl, if_pos rfl, Nat.min_eq_left (by exact_mod_cast hl.le)]
  · rw [decide_eq_false hl, if_neg (by decide), Nat.min_eq_right (by exact_mod_cast not_lt.mp hl)]; rfl

theorem blockExpert_le (v60 : IVec S8 32) (j : S40.Idx) : (blockExpert v60 j).toNat ≤ 7 := by
  unfold blockExpert
  show (IntOp.minsi (Host.reduce IntOp.addi _ _ reducesTo_S40x8_S40_d1 h_S_ j) 7#32).toNat ≤ 7
  rw [Host.reduce_eq_fold]
  show (IntOp.minsi (Finset.fold IntOp.addi 0#32 (fun k => BitVec.setWidth 32 _) _) 7#32).toNat ≤ 7
  rw [IndicatorCount.fold_addi_setWidth_eq_card, minsi_seven]
  · exact Nat.min_le_right _ _
  · rw [BitVec.toNat_ofNat]
    refine lt_of_le_of_lt (Nat.mod_le _ _) ?_
    refine lt_of_le_of_lt (Finset.card_le_univ _) ?_
    have : Fintype.card S40x8.Idx = 320 := by simp [Shape.Idx, S40x8]
    rw [this]; decide

/-- A table of words below eight names blocks inside the weights. -/
theorem ok1_of_le (pf : pre1.Contents (Elt F)) (h : ∀ j, (pf 0 j : BitVec 32).toNat ≤ 7) : ok1 pf := by
  have h1 : ∀ (i : grid1.Coords), (BitVec.ofNat 32 (i 1).val).toNat < 3 := fun i => by
    have : (i 1).val < 3 := (i 1).isLt
    rw [BitVec.toNat_ofNat, Nat.mod_eq_of_lt (by omega)]; exact this
  refine ⟨fun i => ⟨fun a => ?_, .inl rfl⟩, fun i => ⟨fun a => ?_, .inl rfl⟩, fun i => ⟨fun a => ?_, .inl rfl⟩⟩
  · have hv := h ((Rect.unit (s := S40) ![(Scalar.indexCast (BitVec.ofNat 32 (i 0).val)).toNat] S1.size (k1_off1_inb i)).emb (Shape.Idx.first (numel1_S1.symm ▸ Nat.one_pos)))
    have h3 := h1 i
    fin_cases a
    · show (_ + 1) * 1 ≤ 8; exact (Nat.mul_one _).le.trans (Nat.succ_le_succ hv)
    · show (0 + 1) * 1024 ≤ 1024; omega
    · show ((BitVec.ofNat 32 (i 1).val).toNat + 1) * 896 ≤ 2688; omega
  · have hv := h ((Rect.unit (s := S40) ![(Scalar.indexCast (BitVec.ofNat 32 (i 0).val)).toNat] S1.size (k1_off1_inb i)).emb (Shape.Idx.first (numel1_S1.symm ▸ Nat.one_pos)))
    have h3 := h1 i
    fin_cases a
    · show (_ + 1) * 1 ≤ 8; exact (Nat.mul_one _).le.trans (Nat.succ_le_succ hv)
    · show (0 + 1) * 1024 ≤ 1024; omega
    · show ((BitVec.ofNat 32 (i 1).val).toNat + 1) * 896 ≤ 2688; omega
  · have hv := h ((Rect.unit (s := S40) ![(Scalar.indexCast (BitVec.ofNat 32 (i 0).val)).toNat] S1.size (k1_off1_inb i)).emb (Shape.Idx.first (numel1_S1.symm ▸ Nat.one_pos)))
    have h3 := h1 i
    fin_cases a
    · show (_ + 1) * 1 ≤ 8; exact (Nat.mul_one _).le.trans (Nat.succ_le_succ hv)
    · show ((BitVec.ofNat 32 (i 1).val).toNat + 1) * 896 ≤ 2688; omega
    · show (0 + 1) * 1024 ≤ 1024; omega

/-- The host operations between the two regions. -/
def mid (V : Valuation τ sig (Elt F)) : Valuation τ sig (Elt F) :=
  after hostOps1_14 (after hostOps1_13 (after hostOps1_12 (after hostOps1_11 (after hostOps1_10 (after hostOps1_9 (after hostOps1_8 (after hostOps1_7 (after hostOps1_6
    (after hostOps1_5 (after hostOps1_4 (after hostOps1_3 (after hostOps1_2 (after hostOps1_1 (after hostOps1 V))))))))))))))

theorem V17_mid (m : (ℓ : Loc nD τ sig) → Buf (Elt F) ℓ) (outs : Outs (F := F)) (c : Dev nD) : V17 m outs c = mid (V2 m outs c) := by
  unfold mid; rfl

theorem mid_v72_le (V : Valuation τ sig (Elt F)) (j : S40.Idx) : (mid V main_v72 j : BitVec 32).toNat ≤ 7 := by
  have h : mid V main_v72 = blockExpert ((after hostOps1_11 (after hostOps1_10 (after hostOps1_9 (after hostOps1_8 (after hostOps1_7 (after hostOps1_6
    (after hostOps1_5 (after hostOps1_4 (after hostOps1_3 (after hostOps1_2 (after hostOps1_1 (after hostOps1 V)))))))))))) main_v60) := by
    unfold mid
    rw [after_of_writes_sub hostOps1_14 _ hostOps1_14_writes (by decide), after_of_writes_sub hostOps1_13 _ hostOps1_13_writes (by decide)]
    exact read_v72 _
  rw [h]; exact blockExpert_le _ j

end Cert.KernelIdeal.Own

end
-- ==== Proof.RunI.lean ====
/- The run of @main: the router's region, the host's dispatch, the grouped product's region, the host's combine. Every final
   state has the arguments as launched, the results at what the last host operations compute, and every counter at zero. -/
module

public import proofs.«01_k».proof.Proof.HostTabI
public import Idealize.ShloMosaic.Lib.Pipeline.RegionArraysTS

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg afterRegion)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The only core. -/
abbrev c0 : Dev nD := ⟨0, by decide⟩

theorem dev_eq (c : Dev nD) : c = c0 := Subsingleton.elim (α := Fin 1) _ _

/-- What the router's region leaves. -/
def outs0 : Outs (F := F) := fun _ r c => afterRegion (dat0 (V1 m) c) (V1 m c) (Proc.devRef .tc r)

/-- The contents the grouped product's region is entered from. -/
def Vin (c : Dev nD) : Valuation τ sig (Elt F) := mid (V2 m (outs0 m) c)

/-- The tables it is entered with. -/
def tabs : (pcfg1 (F := F)).Adm :=
  ⟨fun k => Vin m c0 (Proc.devRef .tc (pre1.ref k)), ok1_of_le _ fun j => mid_v72_le (V2 m (outs0 m) c0) j⟩

/-- What each region leaves. -/
def outs : Outs (F := F) := fun J r c =>
  if J = 18 then afterRegion (dat1 (tabs m) (Vin m) c) (Vin m c) (Proc.devRef .tc r) else outs0 m J r c

theorem V2_outs (c : Dev nD) : V2 m (outs m) c = V2 m (outs0 m) c := by
  have h : ∀ r, outs m 2 r c = outs0 m 2 r c := fun r => by unfold outs; rw [if_neg (by decide)]
  unfold V2; rw [h, h, h]

theorem V17_outs (c : Dev nD) : V17 m (outs m) c = Vin m c := by rw [V17_mid, V2_outs]; rfl

/-- The regions' tables: the router has none. -/
def adm : (p : Fin 2) → (pcfgs (F := F) p).Adm := fun
  | ⟨0, _⟩ => cfg0.toPCfg_adm
  | ⟨1, _⟩ => tabs m

set_option backward.isDefEq.respectTransparency.types false in
/-- The regions' proof data. -/
def pdats : (p : Fin 2) → (c : Dev nD) → Dat τ (Elt F) Unit ℕ (UR sig nD τ) ℕ (Pipeline.pin (pcfgs (F := F)) (adm m) p) c := fun
  | ⟨0, _⟩ => fun c => dat0 (V1 m) c
  | ⟨1, _⟩ => fun c => dat1 (tabs m) (Vin m) c

/-- Levels: a unit at each of the TensorCore's cells. -/
def Lm : GSem nD τ sig → Finset Unit := fun g => if g.1.2 = .tc then {()} else ∅
abbrev lvm : GSem nD τ sig → Unit → ℕ := fun _ _ => 0

theorem cut (p : Fin 2) : Pipeline.LevelCut (pcfgs (F := F)) (adm m) () Lm lvm p (fun _ => 0) (fun _ => 0) where
  hι c w s := by unfold Lm; rw [if_pos rfl]; exact Finset.mem_singleton_self _
  hιb c w s := le_refl _
  hD c g i h := absurd h (lt_irrefl _)

/-- What rides beside the buffers between the items. -/
abbrev Rest (c : Dev nD) : sProp 𝕄 := iprop((∃ Wd, owes (c : Thread nD τ) (0 : CellTallies nD τ sig Unit) Wd) ∗ (∃ r, prngReg c r) ∗ (BI.emp : sProp 𝕄))

set_option backward.isDefEq.respectTransparency.types false in
/-- The router's region. -/
def reg0 : RegionSeg (pcfgs (F := F)) (adm m) (pdats m) () defs₀ Variants.none Lm lvm 0 :=
  RegionSeg.ofHeldIn (pcfgs (F := F)) (adm m) (pdats m) () defs₀ Variants.none Lm lvm 0 (fun _ => 0) (Pipeline.ucRefs τ sig)
    (fun c => iprop(∃ r, prngReg c r)) (fun c => iprop(∃ r, prngReg c r)) launch0 rfl
    (fun c => (body0_obligation (V1 m) c).loose) (fun _ _ => rfl) (fun _ => rfl)
    (fun c => (dat0 (V1 m) c).share_full fun _ => rfl)
    (fun c => by rw [show (pdats m 0 c).Φ 0 = Pipeline.ΦA spec0 c from rfl]; exact .rfl)
    (fun c => by rw [show (pdats m 0 c).Φ (Fin.last _) = Pipeline.ΦA spec0 c from rfl]; exact .rfl)
    (fun _ => 0) (cut m 0) (fun _ => BI.emp) (fun c => V1 m c) (fun c w => dat0_A (V1 m) c w)

theorem tables_eq (c : Dev nD) (a : (pcfg1 (F := F)).Adm) :
    (Pipeline.prefHeld pre1 c (fun _ => fullShare) a.1 : sProp 𝕄) = iprop(tbPt c tbM0 (a.1 0) ∗ tbPt c tbM1 (a.1 1)) := by
  unfold Pipeline.prefHeld
  rw [show (Finset.univ : Finset (Fin pre1.K)) = insert (0 : Fin 2) {(1 : Fin 2)} from rfl]
  rw [bigSep_insert (by decide), bigSep_singleton]
  rfl

set_option backward.isDefEq.respectTransparency.types false in
/-- The grouped product's region. -/
def reg1 : RegionSeg (pcfgs (F := F)) (adm m) (pdats m) () defs₀ Variants.none Lm lvm 1 :=
  RegionSeg.ofHeldInT (pcfgs (F := F)) (adm m) (pdats m) () defs₀ Variants.none Lm lvm 1 (fun _ => 0) (Pipeline.ucRefs τ sig)
    (fun c => iprop(∃ r, prngReg c r)) (fun c => iprop(∃ r, prngReg c r)) launch1
    (fun c => (body1_obligation (tabs m) (Vin m) c).loose) (fun _ _ => rfl) (fun _ => rfl)
    (fun c => (dat1 (tabs m) (Vin m) c).share_full fun _ => rfl)
    (fun c => by
      rw [show (pdats m 1 c).Φ 0 = Phi1 (tabs m) (Vin m) c 0 from rfl,
        show (Pipeline.scopedRest (Pipeline.pin (pcfgs (F := F)) (adm m) 1).spec c : sProp 𝕄) = Pipeline.scopedRest spec1 c from rfl, scopedRest1_split,
        show (Pipeline.tablesAt (pcfgs (F := F)) (adm m) 1 c : sProp 𝕄) = Pipeline.prefHeld pre1 c (fun _ => fullShare) (tabs m).1 from rfl, tables_eq]
      unfold Phi1
      iintro ⟨⟨⟨Ho, ⟨%d, HS⟩⟩, Hp⟩, HT0, HT1⟩
      isplitl [HS]
      · iexists d; isplitr
        · ipureintro; intro h; exact absurd rfl h
        · iexact HS
      isplitl [Ho]; · iexact Ho
      isplitl [Hp]; · iexact Hp
      isplitl [HT0]; · iexact HT0
      iexact HT1)
    (fun c => by
      rw [show (pdats m 1 c).Φ (Fin.last _) = Phi1 (tabs m) (Vin m) c (cfg1 (tabs m)).N from rfl,
        show (Pipeline.scopedRest (Pipeline.pin (pcfgs (F := F)) (adm m) 1).spec c : sProp 𝕄) = Pipeline.scopedRest spec1 c from rfl, scopedRest1_split,
        show (Pipeline.tablesAt (pcfgs (F := F)) (adm m) 1 c : sProp 𝕄) = Pipeline.prefHeld pre1 c (fun _ => fullShare) (tabs m).1 from rfl, tables_eq]
      unfold Phi1
      iintro ⟨⟨%d, -, HS⟩, Ho, Hp, HT0, HT1⟩
      isplitl [HS Ho Hp]
      · isplitl [HS Ho]
        · isplitl [Ho]; · iexact Ho
          iexists d; iexact HS
        · iexact Hp
      isplitl [HT0]; · iexact HT0
      iexact HT1)
    (fun _ => 0) (cut m 1) (fun _ => BI.emp) (fun c => Vin m c) (fun c w => dat1_A (tabs m) (Vin m) c w)
    (fun c k => by rw [dev_eq c]; rfl)

/-! ### The valuations after the regions -/

theorem V2_eq (c : Dev nD) : V2 m (outs m) c = afterRegion (dat0 (V1 m) c) (V1 m c) := by
  rw [V2_outs]
  funext b
  by_cases h2 : b = Proc.devRef .tc main_v1_2
  · subst h2; unfold V2; rw [Function.update_self]; rfl
  by_cases h1 : b = Proc.devRef .tc main_v1_1
  · subst h1; unfold V2; rw [Function.update_of_ne h2, Function.update_self]; rfl
  by_cases h0 : b = Proc.devRef .tc main_v1_0
  · subst h0; unfold V2; rw [Function.update_of_ne h2, Function.update_of_ne h1, Function.update_self]; rfl
  unfold V2; rw [Function.update_of_ne h2, Function.update_of_ne h1, Function.update_of_ne h0]
  by_cases hw : ∃ w : Fin cfg0.W, b = Proc.devRef .tc (Pipeline.arrRef spec0 w)
  · obtain ⟨w, rfl⟩ := hw
    rw [Pipeline.afterRegion_arr (dat0 (V1 m) c) (V1 m c) (launch0 (F := F)).win.arr_inj w]
    have hin : (cfg0.win w).isOut = false := by
      fin_cases w
      · rfl
      · rfl
      · exact absurd rfl h0
      · exact absurd rfl h1
      · exact absurd rfl h2
    exact (((dat0 (V1 m) c).arrAt_in w hin _).trans (dat0_A (V1 m) c w)).symm
  · unfold afterRegion; rw [dif_neg hw]

theorem V18_eq (c : Dev nD) : V18 m (outs m) c = afterRegion (dat1 (tabs m) (Vin m) c) (Vin m c) := by
  unfold V18
  rw [V17_outs]
  funext b
  by_cases h2 : b = Proc.devRef .tc main_v77
  · subst h2; rw [Function.update_self]; unfold outs; rw [if_pos rfl]
  rw [Function.update_of_ne h2]
  by_cases hw : ∃ w : Fin (cfg1 (tabs m)).W, b = Proc.devRef .tc (Pipeline.arrRef spec1 w)
  · obtain ⟨w, rfl⟩ := hw
    rw [Pipeline.afterRegion_arr (dat1 (tabs m) (Vin m) c) (Vin m c) (launch1 (F := F)).win.arr_inj w]
    have hin : ((cfg1 (tabs m)).win w).isOut = false := by
      change Fin 6 at w
      fin_cases w
      · rfl
      · rfl
      · rfl
      · rfl
      · rfl
      · exact absurd rfl h2
    exact (((dat1 (tabs m) (Vin m) c).arrAt_in w hin _).trans (dat1_A (tabs m) (Vin m) c w)).symm
  · unfold afterRegion; rw [dif_neg hw]

theorem arrs0_sub : Pipeline.arrRefs (pcfgs (F := F) 0).spec ⊆ Pipeline.ucRefs τ sig := by
  intro b hb
  obtain ⟨r, hr, rfl⟩ := Finset.mem_map.mp hb
  obtain ⟨w, -, rfl⟩ := Finset.mem_image.mp hr
  refine Finset.mem_filter.mpr ⟨StableHlo.devRef_mem_tcRefs _, ?_⟩
  change Fin 5 at w
  fin_cases w <;> exact fun h => Bool.false_ne_true h

theorem arrs1_sub : Pipeline.arrRefs (pcfgs (F := F) 1).spec ⊆ Pipeline.ucRefs τ sig := by
  intro b hb
  obtain ⟨r, hr, rfl⟩ := Finset.mem_map.mp hb
  obtain ⟨w, -, rfl⟩ := Finset.mem_image.mp hr
  refine Finset.mem_filter.mpr ⟨StableHlo.devRef_mem_tcRefs _, ?_⟩
  change Fin 6 at w
  fin_cases w <;> exact fun h => Bool.false_ne_true h

theorem tbls1_sub : Pipeline.tblRefs (pcfgs (F := F) 1).pre ⊆ Pipeline.ucRefs τ sig := by
  intro b hb
  obtain ⟨r, hr, rfl⟩ := Finset.mem_map.mp hb
  obtain ⟨w, -, rfl⟩ := Finset.mem_image.mp hr
  refine Finset.mem_filter.mpr ⟨StableHlo.devRef_mem_tcRefs _, ?_⟩
  change Fin 2 at w
  fin_cases w <;> exact fun h => Bool.false_ne_true h

/-- The library's part of the launch's ghost state. -/
def u₀ : UR sig nD τ := initOf (Pipeline.cells (Pipeline.pin (pcfgs (F := F)) (adm m)) (cellOf_inj (adm m))) (Pipeline.launchToks (Pipeline.pin (pcfgs (F := F)) (adm m)) (cellOf_inj (adm m)))

/-- The state after the last item at a reference. -/
theorem main_v98_mem : Proc.devRef .tc main_v98 ∈ Pipeline.ucRefs τ sig := Finset.mem_filter.mpr ⟨StableHlo.devRef_mem_tcRefs main_v98, by decide⟩
theorem main_v99_mem : Proc.devRef .tc main_v99 ∈ Pipeline.ucRefs τ sig := Finset.mem_filter.mpr ⟨StableHlo.devRef_mem_tcRefs main_v99, by decide⟩

set_option backward.isDefEq.respectTransparency.types false in
theorem reg_pre0 (c : Dev nD) : iprop(StableHlo.held (c : Thread nD τ) (Pipeline.ucRefs τ sig) (V1 m c) ∗ Rest c) ⊢ (reg0 m).pre c := by
  unfold reg0; exact RegionSeg.ofHeldIn_pre (pcs := pcfgs (F := F)) (a := adm m) (pdats := pdats m) (ι := ()) (defs₀ := defs₀) (𝒱₀ := Variants.none) (L := Lm) (lv := lvm) (p := 0) (D := fun _ => 0) (S := Pipeline.ucRefs τ sig) (Y := fun c => iprop(∃ r, prngReg c r)) (W := fun c => V1 m c) (R := fun _ => BI.emp) (X := fun c => iprop(∃ r, prngReg c r)) (arrs0_sub (F := F)) c

set_option backward.isDefEq.respectTransparency.types false in
theorem reg_post0 (c : Dev nD) : (reg0 m).post c ⊢ iprop(StableHlo.held (c : Thread nD τ) (Pipeline.ucRefs τ sig) (V2 m (outs m) c) ∗ Rest c) := by
  rw [V2_eq]; unfold reg0; exact RegionSeg.ofHeldIn_post (pcs := pcfgs (F := F)) (a := adm m) (pdats := pdats m) (ι := ()) (defs₀ := defs₀) (𝒱₀ := Variants.none) (L := Lm) (lv := lvm) (p := 0) (D := fun _ => 0) (S := Pipeline.ucRefs τ sig) (X := fun c => iprop(∃ r, prngReg c r)) (W := fun c => V1 m c) (R := fun _ => BI.emp) (Y := fun c => iprop(∃ r, prngReg c r)) (arrs0_sub (F := F)) c

set_option backward.isDefEq.respectTransparency.types false in
theorem reg_pre1 (c : Dev nD) : iprop(StableHlo.held (c : Thread nD τ) (Pipeline.ucRefs τ sig) (V17 m (outs m) c) ∗ Rest c) ⊢ (reg1 m).pre c := by
  rw [V17_outs]; unfold reg1
  exact RegionSeg.ofHeldInT_pre (pcs := pcfgs (F := F)) (a := adm m) (pdats := pdats m) (ι := ()) (defs₀ := defs₀) (𝒱₀ := Variants.none) (L := Lm) (lv := lvm) (p := 1) (D := fun _ => 0) (S := Pipeline.ucRefs τ sig) (Y := fun c => iprop(∃ r, prngReg c r)) (W := fun c => Vin m c) (R := fun _ => BI.emp) (X := fun c => iprop(∃ r, prngReg c r)) (arrs1_sub (F := F)) (tbls1_sub (F := F)) c

set_option backward.isDefEq.respectTransparency.types false in
theorem reg_post1 (c : Dev nD) : (reg1 m).post c ⊢ iprop(StableHlo.held (c : Thread nD τ) (Pipeline.ucRefs τ sig) (V18 m (outs m) c) ∗ Rest c) := by
  rw [V18_eq]; unfold reg1
  exact RegionSeg.ofHeldInT_post (pcs := pcfgs (F := F)) (a := adm m) (pdats := pdats m) (ι := ()) (defs₀ := defs₀) (𝒱₀ := Variants.none) (L := Lm) (lv := lvm) (p := 1) (D := fun _ => 0) (S := Pipeline.ucRefs τ sig) (X := fun c => iprop(∃ r, prngReg c r)) (W := fun c => Vin m c) (R := fun _ => BI.emp) (Y := fun c => iprop(∃ r, prngReg c r)) (arrs1_sub (F := F)) (tbls1_sub (F := F)) c

set_option maxHeartbeats 1000000 in
set_option backward.isDefEq.respectTransparency.types false in
/-- Every weakly fair execution of @main ends, with the arguments as launched, the results at the last host operations' values,
    and every semaphore counter at zero. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v98) = V19 m (outs m) c main_v98
      ∧ r.2.mem ((c.tc : Thread nD τ).loc main_v99) = V19 m (outs m) c main_v99)
      ∧ r.2.sem = fun _ => 0) := by
  refine Pipeline.θ_run_regions_kit_dev_sems (pcfgs (F := F)) (adm m) (pdats m) () (cellOf_inj (adm m)) emb₁ defs₀ Variants.none Lm lvm m ρ main
    (segs m (outs m) Variants.none Lm lvm (fun _ => Rest) () (adm m) (pdats m) (reg0 m) (reg1 m))
    (fun c Q => by
      rewrite [main_chain c, Seg.run_eq_chain,
        show (segs m (outs m) Variants.none Lm lvm (fun _ => Rest) () (adm m) (pdats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          StableHlo.seq hostOps1_13,
          StableHlo.seq hostOps1_14,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0)
    (fun g hg => by unfold Lm; rw [if_neg hg]) (fun _ => BI.emp) (u₀ m)
    (by
      iintro Hu; imodintro
      isplitl [Hu]
      · iapply (show (ownU (u₀ m) : sProp 𝕄) ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (V0 m c) ∗ Rest c))
    (Tₙ := fun c => StableHlo.held (c : Thread nD τ) (Pipeline.ucRefs τ sig) (V19 m (outs m) c))
    (hch := fun c => ⟨.rfl, reg_pre0 m c, reg_post0 m c, .rfl, .rfl, .rfl, .rfl, .rfl, .rfl, .rfl, .rfl, .rfl, .rfl, .rfl, .rfl, .rfl, .rfl, reg_pre1 m c, reg_post1 m c,
      sep_mono .rfl (by iintro ⟨HO, -, -⟩; iexact HO)⟩)
    (hinit := ?_)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
      ∧ s.mem ((c.tc : Thread nD τ).loc main_v98) = V19 m (outs m) c main_v98
      ∧ s.mem ((c.tc : Thread nD τ).loc main_v99) = V19 m (outs m) c main_v99)
    (hfin := fun c s' => ?_) (hQ := fun _ h hz => ⟨h, funext fun g => hz g (.inr (regions_no_unscoped g.2))⟩)
  · refine Pipeline.initEach Lm lvm fun c => ?_
    rw [show unscopedBufs c (fun b => m ((c.tc : Thread nD τ).loc b)) = StableHlo.held (c : Thread nD τ) (Pipeline.ucRefs τ sig) (V0 m c)
      from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (V19 m (outs m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V19_main_arg0 m (outs m) c),
        (h (Proc.devRef .tc main_arg1) (Finset.mem_filter.mpr ⟨StableHlo.devRef_mem_tcRefs main_arg1, by decide⟩)).trans (V19_main_arg1 m (outs m) c),
        (h (Proc.devRef .tc main_arg2) (Finset.mem_filter.mpr ⟨StableHlo.devRef_mem_tcRefs main_arg2, by decide⟩)).trans (V19_main_arg2 m (outs m) c),
        (h (Proc.devRef .tc main_arg3) (Finset.mem_filter.mpr ⟨StableHlo.devRef_mem_tcRefs main_arg3, by decide⟩)).trans (V19_main_arg3 m (outs m) c),
        (h (Proc.devRef .tc main_arg4) (Finset.mem_filter.mpr ⟨StableHlo.devRef_mem_tcRefs main_arg4, by decide⟩)).trans (V19_main_arg4 m (outs m) c)⟩,
        h (Proc.devRef .tc main_v98) main_v98_mem, h (Proc.devRef .tc main_v99) main_v99_mem⟩
    · iexact HSI

end Cert.KernelIdeal.Own

end
-- ==== Proof.Dispatch.lean ====
/- The dispatch in natural numbers: each expert's assignments take a run of rows padded to whole blocks, assignments keep
   their order inside their expert's run, and every assignment has its own row. -/
module

public import Idealize.ShloMosaic.Lib.Routing.Ops

@[expose] public section

namespace Cert.Moe

open Finset

variable (e : ℕ → ℕ)

/-- How many of the first `n` assignments go to expert `c`. -/
def cnt (n c : ℕ) : ℕ := Nat.count (fun i => e i = c) n

/-- The rows expert `c` takes: its assignments, rounded up to whole blocks. -/
def psz (c : ℕ) : ℕ := (cnt e 8192 c + 255) / 256 * 256

/-- Where expert `c`'s rows begin. -/
def gb : ℕ → ℕ
  | 0 => 0
  | c + 1 => gb c + psz e c

/-- The row of assignment `a`. -/
def pos (a : ℕ) : ℕ := gb e (e a) + cnt e a (e a)

theorem cnt_succ (n c : ℕ) : cnt e (n + 1) c = cnt e n c + if e n = c then 1 else 0 := Nat.count_succ _ _

theorem cnt_mono (c : ℕ) : Monotone fun n => cnt e n c := Nat.count_monotone _

/-- Counting before an assignment of the expert and after it. -/
theorem cnt_lt {a n : ℕ} (h : a < n) : cnt e a (e a) < cnt e n (e a) := by
  have h1 : cnt e (a + 1) (e a) ≤ cnt e n (e a) := cnt_mono e _ h
  rw [cnt_succ, if_pos rfl] at h1
  omega

/-- Every assignment is counted once. -/
theorem cnt_sum (he : ∀ a, e a < 8) (n : ℕ) : ∑ c ∈ range 8, cnt e n c = n := by
  induction n with
  | zero => simp [cnt]
  | succ n ih =>
    simp only [cnt_succ]
    rw [Finset.sum_add_distrib, ih, Finset.sum_ite_eq, if_pos (mem_range.mpr (he n))]

theorem cnt_le_psz (c : ℕ) : cnt e 8192 c ≤ psz e c := by unfold psz; omega

theorem psz_le (c : ℕ) : psz e c ≤ cnt e 8192 c + 255 := by unfold psz; omega

theorem gb_mono : Monotone (gb e) := monotone_nat_of_le_succ fun c => Nat.le_add_right _ _

theorem gb_dvd (c : ℕ) : 256 ∣ gb e c := by
  induction c with
  | zero => exact dvd_zero _
  | succ c ih => exact dvd_add ih ⟨_, Nat.mul_comm _ _⟩

theorem gb_le (c : ℕ) : gb e c ≤ ∑ i ∈ range c, cnt e 8192 i + 255 * c := by
  induction c with
  | zero => simp [gb]
  | succ c ih =>
    rw [Finset.sum_range_succ]
    have := psz_le e c
    show gb e c + psz e c ≤ _
    omega

theorem gb_total (he : ∀ a, e a < 8) : gb e 8 ≤ 10232 := by
  have := gb_le e 8
  rw [cnt_sum e he] at this
  omega

/-- An assignment's row is inside its expert's run. -/
theorem pos_lt_next {a : ℕ} (ha : a < 8192) : pos e a < gb e (e a + 1) := by
  have h := cnt_lt e ha
  have h2 := cnt_le_psz e (e a)
  show gb e (e a) + _ < gb e (e a) + psz e (e a)
  omega

theorem pos_lt_total (he : ∀ a, e a < 8) {a : ℕ} (ha : a < 8192) : pos e a < gb e 8 :=
  lt_of_lt_of_le (pos_lt_next e ha) (gb_mono e (he a))

theorem pos_lt (he : ∀ a, e a < 8) {a : ℕ} (ha : a < 8192) : pos e a < 10240 :=
  lt_of_lt_of_le (pos_lt_total e he ha) ((gb_total e he).trans (by omega))

/-- Two assignments never share a row. -/
theorem pos_inj {a b : ℕ} (ha : a < 8192) (hb : b < 8192) (h : pos e a = pos e b) : a = b := by
  have hab : e a = e b := by
    by_contra hne
    rcases Nat.lt_or_gt_of_ne hne with hl | hl
    · have h1 := pos_lt_next e ha
      have h2 : gb e (e a + 1) ≤ gb e (e b) := gb_mono e hl
      have h3 : gb e (e b) ≤ pos e b := Nat.le_add_right _ _
      omega
    · have h1 := pos_lt_next e hb
      have h2 : gb e (e b + 1) ≤ gb e (e a) := gb_mono e hl
      have h3 : gb e (e a) ≤ pos e a := Nat.le_add_right _ _
      omega
  unfold pos at h
  rw [hab] at h
  rcases Nat.lt_trichotomy a b with hl | hl | hl
  · have := cnt_lt e hl; rw [hab] at this; omega
  · exact hl
  · have := cnt_lt e hl; omega

theorem count_lt_eq {k : ℕ} (hk : k < 8) : Nat.count (fun c => c < k) 8 = k := by
  interval_cases k <;> decide

/-- The block a row is in belongs to the row's expert: the experts whose runs end before the block are those below it. -/
theorem block_expert (he : ∀ a, e a < 8) {a : ℕ} (ha : a < 8192) :
    Nat.count (fun c => gb e (c + 1) ≤ pos e a / 256 * 256) 8 = e a := by
  have hiff : ∀ c, gb e (c + 1) ≤ pos e a / 256 * 256 ↔ c < e a := by
    intro c
    constructor
    · intro h
      by_contra hc
      have h1 := pos_lt_next e ha
      have h2 : gb e (e a + 1) ≤ gb e (c + 1) := gb_mono e (by omega)
      have h3 := Nat.div_mul_le_self (pos e a) 256
      omega
    · intro h
      have h2 : gb e (c + 1) ≤ gb e (e a) := gb_mono e h
      have h3 : gb e (e a) ≤ pos e a := Nat.le_add_right _ _
      obtain ⟨k, hk⟩ := gb_dvd e (c + 1)
      omega
  simp only [hiff]
  exact count_lt_eq (he a)

/-- The block a row is in is in use. -/
theorem block_used (he : ∀ a, e a < 8) {a : ℕ} (ha : a < 8192) : pos e a / 256 < gb e 8 / 256 := by
  have h1 := pos_lt_total e he ha
  obtain ⟨k, hk⟩ := gb_dvd e 8
  omega

theorem gb_eq_sum (c : ℕ) : gb e c = ((List.range c).map (psz e)).sum := by
  induction c with
  | zero => rfl
  | succ c ih => rw [List.range_succ, List.map_append, List.sum_append, ← ih]; simp [gb]

end Cert.Moe

end
-- ==== Proof.DispatchOps.lean ====
/- The host operations between the two regions, read at an index as words of natural numbers. -/
module

public import proofs.«01_k».proof.Proof.Dispatch
public import proofs.«01_k».proof.Proof.HostTabI
public import Idealize.ShloMosaic.Lib.Pointwise
public import Idealize.ShloMosaic.Lib.Routing.OpsSearch
public import Idealize.ShloMosaic.Lib.Routing.OpsOne
public import Idealize.ShloMosaic.Lib.Routing.OpsPair
public import Idealize.ShloMosaic.Lib.Routing.OpsSet
public import Idealize.ShloMosaic.Lib.Routing.Ops

@[expose] public section

set_option maxRecDepth 16384

noncomputable section

namespace Cert.Moe

open Cert.KernelIdeal Cert.KernelIdeal.Gen
open Idealize.ShloMosaic

/-! ### The operations -/

/-- Which expert each assignment goes to, one column each. -/
def oh (v2 : IVec S8192 32) : IVec S8192x8 32 :=
  extui 32 (cmpi .eq (broadcastInDim S8192x8 ![0, 1] bcast_S8192x1_S8192x8_0_1 (broadcastInDim S8192x1 ![0] bcast_S8192_S8192x1_0 v2))
    (broadcastInDim S8192x8 ![0, 1] bcast_S1x8_S8192x8_0_1 (broadcastInDim S1x8 ![1] bcast_S8_S1x8_1 (iotaInDim S8 32 0)))) natLt_1_32

/-- The experts' counts with 255 added. -/
def up8 (v10 : IVec S8192x8 32) : IVec S8 32 :=
  subi (addi (Host.reduce IntOp.addi v10 (constantI S_ 32 0#32) reducesTo_S8192x8_S8_d0 h_S_) (broadcastInDim S8 ![] bcast_S_S8 (constantI S_ 32 256#32)))
    (broadcastInDim S8 ![] bcast_S_S8 (constantI S_ 32 1#32))

def fdiv8 (x : IVec S8 32) (d : IVec S_ 32) : IVec S8 32 :=
  select (andi (cmpi .ne (signi x) (broadcastInDim S8 ![] bcast_S_S8 (signi d))) (cmpi .ne (Host.remsi x (broadcastInDim S8 ![] bcast_S_S8 d)) (broadcastInDim S8 ![] bcast_S_S8 (constantI S_ 32 0#32))))
    (subi (Host.divsi x (broadcastInDim S8 ![] bcast_S_S8 d)) (broadcastInDim S8 ![] bcast_S_S8 (constantI S_ 32 1#32)))
    (Host.divsi x (broadcastInDim S8 ![] bcast_S_S8 d))

def mul8 (x : IVec S8 32) : IVec S8 32 := muli x (broadcastInDim S8 ![] bcast_S_S8 (constantI S_ 32 256#32))

def cum8 (x : IVec S8 32) : IVec S8 32 :=
  Host.reduceWindow IntOp.addi ![8] ![1] ![7] ![0] x (broadcastInDim S_ ![] bcast_S_S_ (constantI S_ 32 0#32)) reduceWindows_S8_S8_w8s1p7_0 h_S_

def cumA (x : IVec S8192x8 32) : IVec S8192x8 32 :=
  Host.reduceWindow IntOp.addi ![8192, 1] ![1, 1] ![8191, 0] ![0, 0] x (broadcastInDim S_ ![] bcast_S_S_ (constantI S_ 32 0#32)) reduceWindows_S8192x8_S8192x8_w8192s1p8191_0_w1s1p0_0 h_S_

/-- The column each row is read at, with the places the library's read along an axis gives it. -/
def col (v22 : IVec S8192x1 32) : IVec S8192x1x1 32 :=
  shapeCast S8192x1x1 (select (cmpi .slt v22 (broadcastInDim S8192x1 ![] bcast_S_S8192x1 (constantI S_ 32 0#32)))
    (addi v22 (broadcastInDim S8192x1 ![] bcast_S_S8192x1 (constantI S_ 32 8#32))) v22) shapeCasts_S8192x1_S8192x1x1

def along (v21 : IVec S8192x8 32) (v22 : IVec S8192x1 32) : IVec S8192x1 32 :=
  select (Host.reduce IntOp.andi (andi (cmpi .sge (col v22) (broadcastInDim S8192x1x1 ![] bcast_S_S8192x1x1 (constantI S_ 32 0#32)))
      (cmpi .sle (col v22) (broadcastInDim S8192x1x1 ![0, 1, 2] bcast_S1x1x1_S8192x1x1_0_1_2 (broadcastInDim S1x1x1 ![2] bcast_S1_S1x1x1_2 (constantI S1 32 7#32)))))
      (constantI S_ 1 1#1) reducesTo_S8192x1x1_S8192x1_d2 h_S_)
    (Host.gather gather_S8192x8_S8192x1x1_S8192x1_n_1_0_0_1_2_11 v21 (col v22))
    (broadcastInDim S8192x1 ![] bcast_S_S8192x1 (constantI S_ 32 2147483648#32))

/-- Words that are negative moved up by `n`. -/
def wrapA (n : BitVec 32) (v : IVec S8192 32) : IVec S8192 32 :=
  select (cmpi .slt v (broadcastInDim S8192 ![] bcast_S_S8192 (constantI S_ 32 0#32))) (addi v (broadcastInDim S8192 ![] bcast_S_S8192 (constantI S_ 32 n))) v

/-- The rows of the assignments. -/
def posW (v20 : IVec S8 32) (v23 : IVec S8192x1 32) (v2 : IVec S8192 32) : IVec S8192 32 :=
  addi (Host.gather gather_S8_S8192x1_S8192_n_0_n_n_0_1_1 v20 (broadcastInDim S8192x1 ![0] bcast_S8192_S8192x1_0 (wrapA 8#32 v2)))
    (subi (shapeCast S8192 v23 shapeCasts_S8192x1_S8192) (broadcastInDim S8192 ![] bcast_S_S8192 (constantI S_ 32 1#32)))

def fdivA (x : IVec S8192 32) (d : IVec S_ 32) : IVec S8192 32 :=
  select (andi (cmpi .ne (signi x) (broadcastInDim S8192 ![] bcast_S_S8192 (signi d))) (cmpi .ne (Host.remsi x (broadcastInDim S8192 ![] bcast_S_S8192 d)) (broadcastInDim S8192 ![] bcast_S_S8192 (constantI S_ 32 0#32))))
    (subi (Host.divsi x (broadcastInDim S8192 ![] bcast_S_S8192 d)) (broadcastInDim S8192 ![] bcast_S_S8192 (constantI S_ 32 1#32)))
    (Host.divsi x (broadcastInDim S8192 ![] bcast_S_S8192 d))

/-- Values put at the assignments' rows. -/
def putA {α : Type} (x0 : S10240.Idx → α) (v34 : IVec S8192 32) (u : S8192.Idx → α) : S10240.Idx → α :=
  Host.scatter scatter_S10240_S8192x1_S8192_n_0_0_1 (fun _ b => b) x0 (broadcastInDim S8192x1 ![0] bcast_S8192_S8192x1_0 (wrapA 10240#32 v34)) u

/-- The rows of the tokens. -/
def rowsOf {F : FTy → Type} (x : FVec F S4096x1024 .f32) (v44 : IVec S10240 32) : FVec F S10240x1024 .f32 :=
  Host.gather gather_S4096x1024_S10240x1_S10240x1024_1_0_n_n_0_1_11024 x (broadcastInDim S10240x1 ![0] bcast_S10240_S10240x1_0
    (select (cmpi .slt v44 (broadcastInDim S10240 ![] bcast_S_S10240 (constantI S_ 32 0#32))) (addi v44 (broadcastInDim S10240 ![] bcast_S_S10240 (constantI S_ 32 4096#32))) v44))

/-! ### At an index -/

variable (e : ℕ → ℕ) (he : ∀ a, e a < 8)

/-- The counts of a mask's rows, column by column. -/
theorem count_rows {N C : Nat} (hN : N < 2 ^ 32) (msk : IVec (Routing.shape2 N C) 1) (hw : 1 < 32) (h : (Routing.shape2 N C).ReducesTo [0] (Routing.shape1 C))
    (hu : 0 < Routing.shape0.numel) (q : Fin C) (Q : Nat → Prop) [DecidablePred Q] (hQ : ∀ j : Fin N, msk (ValueIdx.ix2 j q) = 1#1 ↔ Q j.val) :
    Host.reduce IntOp.addi (extui 32 msk hw) (constantI Routing.shape0 32 0#32) h hu (ValueIdx.ix1 q) = BitVec.ofNat 32 (Nat.count Q N) := by
  classical
  have hval : ∀ i, (extui 32 msk hw i).toNat = if msk i = 1#1 then 1 else 0 := fun i => StableHlo.Predicate.toNat_setWidth_bit (msk i)
  have hdrop : ∀ i : (Routing.shape2 N C).Idx, h.drop i = ValueIdx.ix1 q ↔ i 1 = q := by
    intro i
    have hv0 : (h.drop i 0 : Nat) = i 1 := Shape.ReducesTo.drop_apply_val h i 0
    constructor
    · intro e
      rw [e] at hv0
      exact Fin.ext hv0.symm
    · intro e1
      funext c
      match c with
      | ⟨0, _⟩ => exact Fin.ext (hv0.trans (congrArg Fin.val e1))
  have hback : ∀ i : (Routing.shape2 N C).Idx, i 1 = q → ValueIdx.ix2 (i 0) q = i := fun i hi => by
    funext c
    match c with
    | ⟨0, _⟩ => rfl
    | ⟨1, _⟩ => exact hi.symm
  have hsum : ∑ i ∈ Finset.univ.filter (fun i : (Routing.shape2 N C).Idx => h.drop i = ValueIdx.ix1 q), (extui 32 msk hw i).toNat
      = (Finset.univ.filter (fun j : Fin N => msk (ValueIdx.ix2 j q) = 1#1)).card := by
    rw [Finset.card_filter]
    refine Finset.sum_bij' (fun i _ => i 0) (fun j _ => ValueIdx.ix2 j q) (fun _ _ => Finset.mem_univ _)
      (fun j _ => Finset.mem_filter.2 ⟨Finset.mem_univ _, (hdrop _).2 rfl⟩)
      (fun i hi => hback i ((hdrop i).1 (Finset.mem_filter.1 hi).2)) (fun _ _ => rfl) ?_
    intro i hi
    rw [hval]
    exact (congrArg (fun x => if msk x = 1#1 then 1 else 0) (hback i ((hdrop i).1 (Finset.mem_filter.1 hi).2))).symm
  apply BitVec.eq_of_toNat_eq
  rw [Host.reduce_eq_fold]
  show (Finset.fold IntOp.addi 0#32 (extui 32 msk hw) (Finset.univ.filter fun i : (Routing.shape2 N C).Idx => h.drop i = ValueIdx.ix1 q)).toNat = _
  rw [StableHlo.Predicate.toNat_fold_addi _ _ (by rw [hsum]; exact lt_of_le_of_lt (Finset.card_le_univ _) (by simpa using hN)), hsum, BitVec.toNat_ofNat,
    Nat.mod_eq_of_lt (Nat.lt_of_le_of_lt (Nat.count_le _) hN), ← Routing.card_filter_fin N Q]
  exact congrArg Finset.card (Finset.filter_congr fun j _ => hQ j)

/-- Which update of a write at the assignments' rows lands where. -/
theorem put_lands (d : ScatterDims (Routing.shape1 10240) (Routing.shape2 8192 1) (Routing.shape1 8192)) (hiw : d.insertedWindowDims = [0])
    (hsd : d.scatterDimsToOperandDims = [0]) (hivd : d.indexVectorDim = 1) (idx : IVec (Routing.shape2 8192 1) 32) (i : Fin 8192) (x : Fin 10240) :
    d.resultIdx? (ValueIdx.ix1 i) idx = some (ValueIdx.ix1 x) ↔ (idx (ValueIdx.ix2 i (0 : Fin 1))).toInt = (x.val : Int) := by
  have hm : (0 : Fin 1) ∈ d.scatterDimsToOperandDims := by rw [hsd]; exact List.mem_singleton.2 rfl
  have hwin : d.window (ValueIdx.ix1 i) 0 = 0 := by
    unfold ScatterDims.window
    rw [dif_neg fun h => (of_decide_eq_true (List.mem_filter.1 h).2) (by rw [hiw]; exact List.mem_singleton.2 rfl)]
  have hstart : d.start (ValueIdx.ix1 i) idx 0 = (idx (ValueIdx.ix2 i (0 : Fin 1))).toInt := by
    unfold ScatterDims.start
    rw [dif_pos hm]
    have hsi : d.siIdx (ValueIdx.ix1 i) ⟨d.scatterDimsToOperandDims.idxOf 0, List.idxOf_lt_length_iff.2 hm⟩ = ValueIdx.ix2 i (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        have e : ∀ X : Fin 1, (ValueIdx.ix1 i X).val = i.val := fun X => by
          obtain rfl : X = 0 := Subsingleton.elim _ _
          rfl
        exact e _
      | ⟨1, _⟩ =>
        unfold ScatterDims.siIdx
        rw [dif_pos (by rw [hivd])]
        show List.idxOf (0 : Fin 1) d.scatterDimsToOperandDims = 0
        rw [hsd]; simp
    rw [hsi]
  rw [Routing.resultIdx?_ix1, hstart, hwin]
  simp

/-- The word a nonnegative word wraps to is itself. -/
theorem wrap_nat {n : BitVec 32} {k : ℕ} (hk : k < 2 ^ 31) :
    Scalar.select (IntOp.cmpi .slt (BitVec.ofNat 32 k) 0#32) (IntOp.addi (BitVec.ofNat 32 k) n) (BitVec.ofNat 32 k) = BitVec.ofNat 32 k := by
  have h : (BitVec.ofNat 32 k).slt 0#32 = false := by
    rw [Routing.slt_ofNat32 hk (by decide : 0 < 2 ^ 31)]; simp
  show Scalar.select (BitVec.ofBool ((BitVec.ofNat 32 k).slt 0#32)) _ _ = _
  rw [h]; rfl

variable {e}

theorem oh_at {v2 : IVec S8192 32} (h2 : ∀ a : Fin 8192, v2 (ix1 a) = BitVec.ofNat 32 (e a.val)) (he : ∀ a, e a < 8) (a : Fin 8192) (c : Fin 8) :
    oh v2 (ix2 a c) = BitVec.ofNat 32 (if e a.val = c.val then 1 else 0) := by
  unfold oh
  pointwise [h2]
  have h := he a.val
  have hc := c.isLt
  by_cases hec : e a.val = c.val
  · rw [hec, if_pos rfl]; simp [IntOp.cmpi]
  · rw [if_neg hec]
    have hne : BitVec.ofNat 32 (e a.val) ≠ BitVec.ofNat 32 c.val := fun hb => hec (by
      have := congrArg BitVec.toNat hb
      rw [BitVec.toNat_ofNat, BitVec.toNat_ofNat, Nat.mod_eq_of_lt (by omega), Nat.mod_eq_of_lt (by omega)] at this
      exact this)
    simp [IntOp.cmpi, beq_eq_false_iff_ne.mpr hne]

theorem mask_at {v2 : IVec S8192 32} (h2 : ∀ a : Fin 8192, v2 (ix1 a) = BitVec.ofNat 32 (e a.val)) (he : ∀ a, e a < 8) (a : Fin 8192) (c : Fin 8) :
    (cmpi .eq (broadcastInDim S8192x8 ![0, 1] bcast_S8192x1_S8192x8_0_1 (broadcastInDim S8192x1 ![0] bcast_S8192_S8192x1_0 v2))
    (broadcastInDim S8192x8 ![0, 1] bcast_S1x8_S8192x8_0_1 (broadcastInDim S1x8 ![1] bcast_S8_S1x8_1 (iotaInDim S8 32 0)))) (ix2 a c) = 1#1 ↔ e a.val = c.val := by
  pointwise [h2]
  have h := he a.val
  have hc := c.isLt
  by_cases hec : e a.val = c.val
  · rw [hec]; simp [IntOp.cmpi]
  · have hne : BitVec.ofNat 32 (e a.val) ≠ BitVec.ofNat 32 c.val := fun hb => hec (by
      have := congrArg BitVec.toNat hb
      rw [BitVec.toNat_ofNat, BitVec.toNat_ofNat, Nat.mod_eq_of_lt (by omega), Nat.mod_eq_of_lt (by omega)] at this
      exact this)
    simp [IntOp.cmpi, beq_eq_false_iff_ne.mpr hne, hec]

theorem up8_at {v2 : IVec S8192 32} (h2 : ∀ a : Fin 8192, v2 (ix1 a) = BitVec.ofNat 32 (e a.val)) (he : ∀ a, e a < 8) (c : Fin 8) :
    up8 (oh v2) (ix1 c) = BitVec.ofNat 32 (cnt e 8192 c.val + 255) := by
  have hr : Host.reduce IntOp.addi (oh v2) (constantI S_ 32 0#32) reducesTo_S8192x8_S8_d0 h_S_ (ix1 c) = BitVec.ofNat 32 (cnt e 8192 c.val) := by
    rw [ix1_eq_valueIdx]
    exact count_rows (N := 8192) (C := 8) (by norm_num) _ _ _ _ c (fun i => e i = c.val) fun j => by
      rw [← ix2_eq_valueIdx]; exact mask_at h2 he j c
  unfold up8
  generalize Host.reduce IntOp.addi (oh v2) (constantI S_ 32 0#32) reducesTo_S8192x8_S8_d0 h_S_ = X at hr ⊢
  pointwise [hr]
  show BitVec.ofNat 32 _ + 256#32 - 1#32 = _
  rw [show (256#32 : BitVec 32) = BitVec.ofNat 32 256 from rfl, show (1#32 : BitVec 32) = BitVec.ofNat 32 1 from rfl, ← BitVec.ofNat_add, Routing.ofNat32_sub (by omega)]
  rfl

theorem wrapA_at {n : BitVec 32} {v : IVec S8192 32} {a : Fin 8192} {k : ℕ} (hk : k < 2 ^ 31) (h : v (ix1 a) = BitVec.ofNat 32 k) :
    wrapA n v (ix1 a) = BitVec.ofNat 32 k := by
  unfold wrapA
  pointwise []
  rw [h]; exact wrap_nat hk

theorem mul8_at {x : IVec S8 32} {c : Fin 8} {k : ℕ} (h : x (ix1 c) = BitVec.ofNat 32 k) : mul8 x (ix1 c) = BitVec.ofNat 32 (k * 256) := by
  unfold mul8
  pointwise []
  rw [h]
  show BitVec.ofNat 32 k * 256#32 = _
  rw [BitVec.ofNat_mul]

theorem fdiv8_at {x : IVec S8 32} {d : IVec S_ 32} {c : Fin 8} {k n : ℕ} (h : x (ix1 c) = BitVec.ofNat 32 k) (hd : d ix0 = BitVec.ofNat 32 n) (hk : k < 2 ^ 31) (h0 : 0 < n) (hn : n < 2 ^ 31) :
    fdiv8 x d (ix1 c) = BitVec.ofNat 32 (k / n) := by
  refine Eq.trans ?_ (Routing.pyDiv0_ap (fun _ => x (ix1 c)) (fun _ => d ix0) h hd hk h0 hn)
  unfold fdiv8 Routing.pyDiv0
  pointwise []

theorem fdivA_at {x : IVec S8192 32} {d : IVec S_ 32} {c : Fin 8192} {k n : ℕ} (h : x (ix1 c) = BitVec.ofNat 32 k) (hd : d ix0 = BitVec.ofNat 32 n) (hk : k < 2 ^ 31) (h0 : 0 < n) (hn : n < 2 ^ 31) :
    fdivA x d (ix1 c) = BitVec.ofNat 32 (k / n) := by
  refine Eq.trans ?_ (Routing.pyDiv0_ap (fun _ => x (ix1 c)) (fun _ => d ix0) h hd hk h0 hn)
  unfold fdivA Routing.pyDiv0
  pointwise []

theorem cum8_at {x : IVec S8 32} {f : ℕ → ℕ} (h : ∀ c : Fin 8, x (ix1 c) = BitVec.ofNat 32 (f c.val)) (c : Fin 8) :
    cum8 x (ix1 c) = BitVec.ofNat 32 ((List.range (c.val + 1)).map f).sum := by
  unfold cum8
  rw [ix1_eq_valueIdx]
  exact Routing.cumsum1 (N := 8) (Nm1 := 7) rfl x f (fun i => by rw [← ix1_eq_valueIdx]; exact h i) _ rfl _ _ c

theorem cumA_at {v2 : IVec S8192 32} (h2 : ∀ a : Fin 8192, v2 (ix1 a) = BitVec.ofNat 32 (e a.val)) (he : ∀ a, e a < 8) (a : Fin 8192) (c : Fin 8) :
    cumA (oh v2) (ix2 a c) = BitVec.ofNat 32 (cnt e (a.val + 1) c.val) := by
  unfold cumA
  rw [ix2_eq_valueIdx]
  refine (Routing.cumsum_rows (R := 8192) (Rm1 := 8191) (C := 8) rfl (oh v2) (fun i c => if e i = c then 1 else 0)
    (fun i c => by rw [← ix2_eq_valueIdx]; exact oh_at h2 he i c) _ rfl _ _ a c).trans ?_
  exact congrArg (BitVec.ofNat 32) (Routing.sum_map_ite (fun i => e i = c.val) (a.val + 1))

theorem col_at {v22 : IVec S8192x1 32} {a : Fin 8192} {k : ℕ} (hk : k < 2 ^ 31) (h : v22 (ix2 a 0) = BitVec.ofNat 32 k) :
    col v22 (ix3 a 0 0) = BitVec.ofNat 32 k := by
  unfold col
  pointwise []
  rw [h]; exact wrap_nat hk

theorem fold_andi_one {ι : Type} (s : Finset ι) (f : ι → BitVec 1) (h : ∀ i ∈ s, f i = 1#1) : s.fold IntOp.andi 1#1 f = 1#1 := by
  classical
  induction s using Finset.induction_on with
  | empty => rfl
  | insert i s hi ih =>
    rw [Finset.fold_insert hi, ih fun j hj => h j (Finset.mem_insert_of_mem hj), h i (Finset.mem_insert_self _ _)]; rfl

theorem gather_col (x : IVec S8192x8 32) (idx : IVec S8192x1x1 32) (a : Fin 8192) (k : Fin 8) (h : idx (ix3 a 0 0) = BitVec.ofNat 32 k.val) :
    Host.gather gather_S8192x8_S8192x1x1_S8192x1_n_1_0_0_1_2_11 x idx (ix2 a 0) = x (ix2 a k) := by
  unfold Host.gather
  congr 1
  funext b
  refine Fin.ext ?_
  show gather_S8192x8_S8192x1x1_S8192x1_n_1_0_0_1_2_11.start (ix2 a 0) idx b + gather_S8192x8_S8192x1x1_S8192x1_n_1_0_0_1_2_11.batchCoord (ix2 a 0) b
      + gather_S8192x8_S8192x1x1_S8192x1_n_1_0_0_1_2_11.offCoord (ix2 a 0) b = _
  match b with
  | ⟨1, _⟩ =>
    show gather_S8192x8_S8192x1x1_S8192x1_n_1_0_0_1_2_11.start (ix2 a 0) idx (1 : Fin 2) + gather_S8192x8_S8192x1x1_S8192x1_n_1_0_0_1_2_11.batchCoord (ix2 a 0) (1 : Fin 2) + gather_S8192x8_S8192x1x1_S8192x1_n_1_0_0_1_2_11.offCoord (ix2 a 0) (1 : Fin 2) = k.val
    have hb : gather_S8192x8_S8192x1x1_S8192x1_n_1_0_0_1_2_11.batchCoord (ix2 a 0) (1 : Fin 2) = 0 := GatherDims.batchCoord_eq_zero gather_S8192x8_S8192x1x1_S8192x1_n_1_0_0_1_2_11 (ix2 a 0) (1 : Fin 2) (by decide)
    have ho : gather_S8192x8_S8192x1x1_S8192x1_n_1_0_0_1_2_11.offCoord (ix2 a 0) (1 : Fin 2) = 0 := GatherDims.offCoord_eq_zero gather_S8192x8_S8192x1x1_S8192x1_n_1_0_0_1_2_11 (ix2 a 0) (1 : Fin 2) (fun h => ((GatherDims.mem_sKept gather_S8192x8_S8192x1x1_S8192x1_n_1_0_0_1_2_11 _).mp h).1 (List.mem_singleton.mpr rfl))
    rw [hb, ho]
    simp only [Nat.add_zero]
    have hmem : (1 : Fin 2) ∈ gather_S8192x8_S8192x1x1_S8192x1_n_1_0_0_1_2_11.startIndexMap := List.mem_singleton.mpr rfl
    have hsi : gather_S8192x8_S8192x1x1_S8192x1_n_1_0_0_1_2_11.siIdx (ix2 a 0) ⟨List.idxOf (1 : Fin 2) gather_S8192x8_S8192x1x1_S8192x1_n_1_0_0_1_2_11.startIndexMap, List.idxOf_lt_length_iff.2 hmem⟩ = ix3 a 0 0 := by
      funext b; refine Fin.ext ?_
      match b with
      | ⟨0, _⟩ => rfl
      | ⟨1, _⟩ => rfl
      | ⟨2, _⟩ => rfl
    unfold GatherDims.start
    rw [dif_pos hmem, hsi, h, StableHlo.Predicate.toInt_ofNat_small _ (by have := k.isLt; omega)]
    have := k.isLt
    show min ((k.val : ℤ)).toNat (8 - 1) = k.val
    omega
  | ⟨0, _⟩ =>
    show gather_S8192x8_S8192x1x1_S8192x1_n_1_0_0_1_2_11.start (ix2 a 0) idx (0 : Fin 2) + gather_S8192x8_S8192x1x1_S8192x1_n_1_0_0_1_2_11.batchCoord (ix2 a 0) (0 : Fin 2) + gather_S8192x8_S8192x1x1_S8192x1_n_1_0_0_1_2_11.offCoord (ix2 a 0) (0 : Fin 2) = a.val
    have hs : gather_S8192x8_S8192x1x1_S8192x1_n_1_0_0_1_2_11.start (ix2 a 0) idx (0 : Fin 2) = 0 := GatherDims.start_batching gather_S8192x8_S8192x1x1_S8192x1_n_1_0_0_1_2_11 (ix2 a 0) idx (0 : Fin 2) (List.mem_singleton.mpr rfl)
    have ho : gather_S8192x8_S8192x1x1_S8192x1_n_1_0_0_1_2_11.offCoord (ix2 a 0) (0 : Fin 2) = 0 := GatherDims.offCoord_eq_zero gather_S8192x8_S8192x1x1_S8192x1_n_1_0_0_1_2_11 (ix2 a 0) (0 : Fin 2) (fun h => ((GatherDims.mem_sKept gather_S8192x8_S8192x1x1_S8192x1_n_1_0_0_1_2_11 _).mp h).2 (List.mem_singleton.mpr rfl))
    rw [hs, ho]
    simp only [Nat.zero_add, Nat.add_zero]
    unfold GatherDims.batchCoord
    rw [dif_pos (show (0 : Fin 2) ∈ gather_S8192x8_S8192x1x1_S8192x1_n_1_0_0_1_2_11.operandBatchingDims from List.mem_singleton.mpr rfl)]
    rfl

theorem along_at {v21 : IVec S8192x8 32} {v22 : IVec S8192x1 32} (h22 : ∀ a : Fin 8192, v22 (ix2 a 0) = BitVec.ofNat 32 (e a.val)) (he : ∀ a, e a < 8) (a : Fin 8192) :
    along v21 v22 (ix2 a 0) = v21 (ix2 a ⟨e a.val, he _⟩) := by
  have hc : ∀ i : S8192x1x1.Idx, ∃ k, k < 8 ∧ col v22 i = BitVec.ofNat 32 k := fun i => by
    refine ⟨e (i 0).val, he _, ?_⟩
    have hi : i = ix3 (i 0) 0 0 := by
      funext b
      match b with
      | ⟨0, _⟩ => rfl
      | ⟨1, _⟩ => exact Subsingleton.elim (α := Fin 1) _ _
      | ⟨2, _⟩ => exact Subsingleton.elim (α := Fin 1) _ _
    have hl := he (i 0).val
    exact (congrArg (col v22) hi).trans (col_at (by omega) (h22 (i 0)))
  have hm : Host.reduce IntOp.andi (andi (cmpi .sge (col v22) (broadcastInDim S8192x1x1 ![] bcast_S_S8192x1x1 (constantI S_ 32 0#32)))
      (cmpi .sle (col v22) (broadcastInDim S8192x1x1 ![0, 1, 2] bcast_S1x1x1_S8192x1x1_0_1_2 (broadcastInDim S1x1x1 ![2] bcast_S1_S1x1x1_2 (constantI S1 32 7#32)))))
      (constantI S_ 1 1#1) reducesTo_S8192x1x1_S8192x1_d2 h_S_ (ix2 a 0) = 1#1 := by
    rw [Host.reduce_eq_fold]
    refine fold_andi_one _ _ fun i _ => ?_
    obtain ⟨k, hk, hi⟩ := hc i
    show IntOp.andi (IntOp.cmpi .sge (col v22 i) 0#32) (IntOp.cmpi .sle (col v22 i) 7#32) = 1#1
    rw [hi]
    interval_cases k <;> decide
  unfold along
  generalize Host.reduce IntOp.andi (andi (cmpi .sge (col v22) (broadcastInDim S8192x1x1 ![] bcast_S_S8192x1x1 (constantI S_ 32 0#32)))
      (cmpi .sle (col v22) (broadcastInDim S8192x1x1 ![0, 1, 2] bcast_S1x1x1_S8192x1x1_0_1_2 (broadcastInDim S1x1x1 ![2] bcast_S1_S1x1x1_2 (constantI S1 32 7#32)))))
      (constantI S_ 1 1#1) reducesTo_S8192x1x1_S8192x1_d2 h_S_ = M at hm ⊢
  show Scalar.select (M (ix2 a 0)) (Host.gather gather_S8192x8_S8192x1x1_S8192x1_n_1_0_0_1_2_11 v21 (col v22) (ix2 a 0)) _ = _
  rw [hm]
  show Host.gather gather_S8192x8_S8192x1x1_S8192x1_n_1_0_0_1_2_11 v21 (col v22) (ix2 a 0) = _
  exact gather_col _ _ _ ⟨e a.val, he _⟩ (col_at (by have := he a.val; omega) (h22 a))

theorem posW_at {v20 : IVec S8 32} {v23 : IVec S8192x1 32} {v2 : IVec S8192 32} (h2 : ∀ a : Fin 8192, v2 (ix1 a) = BitVec.ofNat 32 (e a.val)) (he : ∀ a, e a < 8)
    (h20 : ∀ c : Fin 8, v20 (ix1 c) = BitVec.ofNat 32 (gb e c.val))
    (h23 : ∀ a : Fin 8192, v23 (ix2 a 0) = BitVec.ofNat 32 (cnt e (a.val + 1) (e a.val))) (a : Fin 8192) :
    posW v20 v23 v2 (ix1 a) = BitVec.ofNat 32 (pos e a.val) := by
  have hg : Host.gather gather_S8_S8192x1_S8192_n_0_n_n_0_1_1 v20 (broadcastInDim S8192x1 ![0] bcast_S8192_S8192x1_0 (wrapA 8#32 v2)) (ix1 a) = BitVec.ofNat 32 (gb e (e a.val)) := by
    rw [ix1_eq_valueIdx]
    refine (Routing.take_ap (N := 8) (n := 8192) gather_S8_S8192x1_S8192_n_0_n_n_0_1_1 rfl rfl rfl rfl v20 _ a (he a.val) (by have := he a.val; omega) ?_).trans ?_
    · rw [← ix2_eq_valueIdx]
      have hw := wrapA_at (n := 8#32) (a := a) (by have := he a.val; omega) (h2 a)
      generalize wrapA 8#32 v2 = X at hw ⊢
      pointwise [hw]
    · rw [← ix1_eq_valueIdx]; exact h20 ⟨e a.val, he _⟩
  unfold posW
  generalize Host.gather gather_S8_S8192x1_S8192_n_0_n_n_0_1_1 v20 (broadcastInDim S8192x1 ![0] bcast_S8192_S8192x1_0 (wrapA 8#32 v2)) = G at hg ⊢
  pointwise []
  rw [hg, h23 a]
  show BitVec.ofNat 32 _ + (BitVec.ofNat 32 _ - 1#32) = _
  rw [cnt_succ, if_pos rfl]
  rw [show (1#32 : BitVec 32) = BitVec.ofNat 32 1 from rfl, Routing.ofNat32_sub (by omega), Nat.add_sub_cancel, ← BitVec.ofNat_add]
  rfl

theorem putA_at {α : Type} {x0 : S10240.Idx → α} {v34 : IVec S8192 32} {u : S8192.Idx → α} (he : ∀ a, e a < 8)
    (h34 : ∀ a : Fin 8192, v34 (ix1 a) = BitVec.ofNat 32 (pos e a.val)) (a : Fin 8192) :
    putA x0 v34 u (ix1 ⟨pos e a.val, pos_lt e he a.isLt⟩) = u (ix1 a) := by
  have hidx : ∀ k : Fin 8192, (broadcastInDim S8192x1 ![0] bcast_S8192_S8192x1_0 (wrapA 10240#32 v34)) (ix2 k 0) = BitVec.ofNat 32 (pos e k.val) := fun k => by
    have hw := wrapA_at (n := 10240#32) (a := k) (by have := pos_lt e he k.isLt; omega) (h34 k)
    generalize wrapA 10240#32 v34 = X at hw ⊢
    pointwise [hw]
  have hl : ∀ (k : Fin 8192) (r : Fin 10240), scatter_S10240_S8192x1_S8192_n_0_0_1.resultIdx? (ix1 k) (broadcastInDim S8192x1 ![0] bcast_S8192_S8192x1_0 (wrapA 10240#32 v34)) = some (ix1 r) ↔ pos e k.val = r.val := fun k r => by
    have h := put_lands scatter_S10240_S8192x1_S8192_n_0_0_1 rfl rfl rfl (broadcastInDim S8192x1 ![0] bcast_S8192_S8192x1_0 (wrapA 10240#32 v34)) k r
    rw [← ix1_eq_valueIdx, ← ix1_eq_valueIdx, ← ix2_eq_valueIdx, hidx, StableHlo.Predicate.toInt_ofNat_small _ (by have := pos_lt e he k.isLt; omega)] at h
    rw [h]; exact Nat.cast_inj
  unfold putA
  refine Routing.scatter_set_hit _ _ _ _ _ _ (fun k hk => ?_) (ix1 a) ((hl _ _).mpr rfl)
  have hk' : k = ix1 (k 0) := by
    funext b
    match b with
    | ⟨0, _⟩ => rfl
  rw [hk'] at hk ⊢
  rw [pos_inj e (k 0).isLt a.isLt ((hl _ _).mp hk) |> Fin.ext]
  rfl

theorem rowsOf_at {F : FTy → Type} {x : FVec F S4096x1024 .f32} {v44 : IVec S10240 32} {r : Fin 10240} {t : Fin 4096} (h : v44 (ix1 r) = BitVec.ofNat 32 t.val) (k : Fin 1024) :
    rowsOf x v44 (ix2 r k) = x (ix2 t k) := by
  unfold rowsOf
  rw [ix2_eq_valueIdx, ix2_eq_valueIdx]
  refine Routing.gather_row (nb := 4096) (B := 1024) (n := 10240) gather_S4096x1024_S10240x1_S10240x1024_1_0_n_n_0_1_11024 rfl rfl rfl rfl rfl x _ r k t ?_ (by norm_num)
  rw [← ix2_eq_valueIdx]
  pointwise []
  rw [h]; exact wrap_nat (by have := t.isLt; omega)

theorem blockExpert_at {v60 : IVec S8 32} (h60 : ∀ c : Fin 8, v60 (ix1 c) = BitVec.ofNat 32 (gb e (c.val + 1))) (he : ∀ a, e a < 8) (b : Fin 40) {k : ℕ} (hk : k < 8)
    (hc : Nat.count (fun c => gb e (c + 1) ≤ b.val * 256) 8 = k) : Cert.KernelIdeal.Own.blockExpert v60 (ix1 b) = BitVec.ofNat 32 k := by
  have hb := b.isLt
  have hr : Host.reduce IntOp.addi (extui 32 (cmpi .sge (broadcastInDim S40x8 ![0, 1] bcast_S40x1_S40x8_0_1 (broadcastInDim S40x1 ![0] bcast_S40_S40x1_0 (muli (iotaInDim S40 32 0) (broadcastInDim S40 ![] bcast_S_S40 (constantI S_ 32 256#32)))))
    (broadcastInDim S40x8 ![0, 1] bcast_S1x8_S40x8_0_1 (broadcastInDim S1x8 ![1] bcast_S8_S1x8_1 v60))) natLt_1_32) (constantI S_ 32 0#32) reducesTo_S40x8_S40_d1 h_S_ (ix1 b)
      = BitVec.ofNat 32 k := by
    rw [ix1_eq_valueIdx, ← hc]
    refine Routing.reduce_count (n := 40) (m := 8) (by norm_num) _ _ _ _ b (fun c => gb e (c + 1) ≤ b.val * 256) fun q => ?_
    rw [← ix2_eq_valueIdx]
    pointwise [h60]
    have h1 : IntOp.muli (BitVec.ofNat 32 b.val) 256#32 = BitVec.ofNat 32 (b.val * 256) := by
      show BitVec.ofNat 32 b.val * 256#32 = _; rw [BitVec.ofNat_mul]
    have hq : gb e (q.val + 1) ≤ 10232 := (gb_mono e q.isLt).trans (gb_total e he)
    rw [h1]
    show BitVec.ofBool ((BitVec.ofNat 32 (gb e (q.val + 1))).sle (BitVec.ofNat 32 (b.val * 256))) = 1#1 ↔ _
    rw [Routing.sle_ofNat32 (by omega) (by omega)]
    by_cases hle : gb e (q.val + 1) ≤ b.val * 256
    · rw [decide_eq_true hle]; exact ⟨fun _ => hle, fun _ => rfl⟩
    · rw [decide_eq_false hle]; exact ⟨fun h => absurd h (by decide), fun h => absurd h hle⟩
  unfold Cert.KernelIdeal.Own.blockExpert
  generalize Host.reduce IntOp.addi (extui 32 (cmpi .sge (broadcastInDim S40x8 ![0, 1] bcast_S40x1_S40x8_0_1 (broadcastInDim S40x1 ![0] bcast_S40_S40x1_0 (muli (iotaInDim S40 32 0) (broadcastInDim S40 ![] bcast_S_S40 (constantI S_ 32 256#32)))))
    (broadcastInDim S40x8 ![0, 1] bcast_S1x8_S40x8_0_1 (broadcastInDim S1x8 ![1] bcast_S8_S1x8_1 v60))) natLt_1_32) (constantI S_ 32 0#32) reducesTo_S40x8_S40_d1 h_S_ = X at hr ⊢
  show IntOp.minsi (X (ix1 b)) 7#32 = _
  rw [hr]
  interval_cases k <;> rfl

end Cert.Moe

end
-- ==== Proof.DispatchI.lean ====
/- What the host hands the grouped product, in terms of what the router leaves: each stretch of host operations read at the buffers the later ones use. -/
module

public import proofs.«01_k».proof.Proof.DispatchOps

@[expose] public section

set_option maxRecDepth 16384

noncomputable section

namespace Cert.Moe

open Cert.KernelIdeal Cert.KernelIdeal.Gen
open Idealize.ShloMosaic Idealize.ShloMosaic.TcCoe Idealize.ShloMosaic.Tactic
open Idealize.ShloMosaic.StableHlo

variable {F : FTy → Type} [FloatOps F]

/-! ### The words as functions of the assignments' experts -/

def d18 (v2 : IVec S8192 32) : IVec S8 32 := mul8 (fdiv8 (up8 (oh v2)) (constantI S_ 32 256#32))
def d20 (v2 : IVec S8192 32) : IVec S8 32 := subi (cum8 (d18 v2)) (d18 v2)
def d22 (v2 : IVec S8192 32) : IVec S8192x1 32 := broadcastInDim S8192x1 ![0] bcast_S8192_S8192x1_0 v2
/-- The row of each assignment. -/
def d34 (v2 : IVec S8192 32) : IVec S8192 32 := posW (d20 v2) (along (cumA (oh v2)) (d22 v2)) v2
/-- The token of each row. -/
def d44 (v2 : IVec S8192 32) : IVec S10240 32 :=
  putA (broadcastInDim S10240 ![] bcast_S_S10240 (constantI S_ 32 0#32)) (d34 v2) (fdivA (iotaInDim S8192 32 0) (constantI S_ 32 2#32))
/-- The weight of each row. -/
def d52 (v2 : IVec S8192 32) (v3 : FVec F S8192 .f32) : FVec F S10240 .f32 :=
  putA (broadcastInDim S10240 ![] bcast_S_S10240 (constant S_ .f32 0x00000000#32 : FVec F S_ .f32)) (d34 v2) v3
/-- The expert of each block. -/
def d72 (v2 : IVec S8192 32) : IVec S40 32 := Cert.KernelIdeal.Own.blockExpert (cum8 (d18 v2))
def fdiv0 (x : IVec S_ 32) (d : IVec S_ 32) : IVec S_ 32 :=
  select (andi (cmpi .ne (signi x) (signi d)) (cmpi .ne (Host.remsi x d) (constantI S_ 32 0#32))) (subi (Host.divsi x d) (constantI S_ 32 1#32)) (Host.divsi x d)
/-- How many blocks are used. -/
def d75 (v2 : IVec S8192 32) : IVec S1 32 :=
  shapeCast S1 (fdiv0 (Host.reduce IntOp.addi (d18 v2) (constantI S_ 32 0#32) reducesTo_S8_S_d0 h_S_) (constantI S_ 32 256#32)) shapeCasts_S_S1

/-! ### The stretches -/

def st0 (V : Valuation τ sig (Elt F)) : Valuation τ sig (Elt F) := V
def st1 (V : Valuation τ sig (Elt F)) : Valuation τ sig (Elt F) := after hostOps1 (st0 V)
def st2 (V : Valuation τ sig (Elt F)) : Valuation τ sig (Elt F) := after hostOps1_1 (st1 V)
def st3 (V : Valuation τ sig (Elt F)) : Valuation τ sig (Elt F) := after hostOps1_2 (st2 V)
def st4 (V : Valuation τ sig (Elt F)) : Valuation τ sig (Elt F) := after hostOps1_3 (st3 V)
def st5 (V : Valuation τ sig (Elt F)) : Valuation τ sig (Elt F) := after hostOps1_4 (st4 V)
def st6 (V : Valuation τ sig (Elt F)) : Valuation τ sig (Elt F) := after hostOps1_5 (st5 V)
def st7 (V : Valuation τ sig (Elt F)) : Valuation τ sig (Elt F) := after hostOps1_6 (st6 V)
def st8 (V : Valuation τ sig (Elt F)) : Valuation τ sig (Elt F) := after hostOps1_7 (st7 V)
def st9 (V : Valuation τ sig (Elt F)) : Valuation τ sig (Elt F) := after hostOps1_8 (st8 V)
def st10 (V : Valuation τ sig (Elt F)) : Valuation τ sig (Elt F) := after hostOps1_9 (st9 V)
def st11 (V : Valuation τ sig (Elt F)) : Valuation τ sig (Elt F) := after hostOps1_10 (st10 V)
def st12 (V : Valuation τ sig (Elt F)) : Valuation τ sig (Elt F) := after hostOps1_11 (st11 V)
def st13 (V : Valuation τ sig (Elt F)) : Valuation τ sig (Elt F) := after hostOps1_12 (st12 V)
def st14 (V : Valuation τ sig (Elt F)) : Valuation τ sig (Elt F) := after hostOps1_13 (st13 V)
def st15 (V : Valuation τ sig (Elt F)) : Valuation τ sig (Elt F) := after hostOps1_14 (st14 V)

theorem mid_eq (V : Valuation τ sig (Elt F)) : Cert.KernelIdeal.Own.mid V = st15 V := rfl

/-- The assignments' experts. -/
def asgE (V : Valuation τ sig (Elt F)) : IVec S8192 32 := shapeCast S8192 (V main_v1_0 : IVec S4096x2 32) shapeCasts_S4096x2_S8192
/-- The assignments' weights. -/
def asgW (V : Valuation τ sig (Elt F)) : FVec F S8192 .f32 := shapeCast S8192 (V main_v1_1 : FVec F S4096x2 .f32) shapeCasts_S4096x2_S8192

theorem a0_v1_0 (V : Valuation τ sig (Elt F)) : st0 V main_v1_0 = V main_v1_0 := rfl
theorem a0_v1_1 (V : Valuation τ sig (Elt F)) : st0 V main_v1_1 = V main_v1_1 := rfl
theorem a0_v1_2 (V : Valuation τ sig (Elt F)) : st0 V main_v1_2 = V main_v1_2 := rfl
theorem a0_v0 (V : Valuation τ sig (Elt F)) : st0 V main_v0 = V main_v0 := rfl
theorem a0_arg2 (V : Valuation τ sig (Elt F)) : st0 V main_arg2 = V main_arg2 := rfl
theorem a0_arg3 (V : Valuation τ sig (Elt F)) : st0 V main_arg3 = V main_arg3 := rfl
theorem a0_arg4 (V : Valuation τ sig (Elt F)) : st0 V main_arg4 = V main_arg4 := rfl
theorem r1_v2 (V : Valuation τ sig (Elt F)) : after hostOps1 V main_v2 = (shapeCast S8192 ((V main_v1_0) : IVec S4096x2 32) shapeCasts_S4096x2_S8192 : IVec S8192 32) := by
  after_reads_simp; try rfl
theorem a1_v2 (V : Valuation τ sig (Elt F)) : st1 V main_v2 = asgE V := by
  unfold st1; rw [r1_v2, a0_v1_0]; try rfl
theorem r1_v3 (V : Valuation τ sig (Elt F)) : after hostOps1 V main_v3 = (shapeCast S8192 ((V main_v1_1) : FVec F S4096x2 .f32) shapeCasts_S4096x2_S8192 : FVec F S8192 .f32) := by
  after_reads_simp; try rfl
theorem a1_v3 (V : Valuation τ sig (Elt F)) : st1 V main_v3 = asgW V := by
  unfold st1; rw [r1_v3, a0_v1_1]; try rfl
theorem r1_v10 (V : Valuation τ sig (Elt F)) : after hostOps1 V main_v10 = oh (shapeCast S8192 ((V main_v1_0) : IVec S4096x2 32) shapeCasts_S4096x2_S8192) := by
  after_reads_simp; try rfl
theorem a1_v10 (V : Valuation τ sig (Elt F)) : st1 V main_v10 = oh (asgE V) := by
  unfold st1; rw [r1_v10, a0_v1_0]; try rfl
theorem r1_v15 (V : Valuation τ sig (Elt F)) : after hostOps1 V main_v15 = up8 (oh (shapeCast S8192 ((V main_v1_0) : IVec S4096x2 32) shapeCasts_S4096x2_S8192)) := by
  after_reads_simp; try rfl
theorem a1_v15 (V : Valuation τ sig (Elt F)) : st1 V main_v15 = up8 (oh (asgE V)) := by
  unfold st1; rw [r1_v15, a0_v1_0]; try rfl
theorem r1_c_2 (V : Valuation τ sig (Elt F)) : after hostOps1 V main_c_2 = constantI S_ 32 256#32 := by
  after_reads_simp; try rfl
theorem a1_c_2 (V : Valuation τ sig (Elt F)) : st1 V main_c_2 = constantI S_ 32 256#32 := by
  unfold st1; rw [r1_c_2]; try rfl
theorem r2_v16 (V : Valuation τ sig (Elt F)) : after hostOps1_1 V main_v16 = fdiv8 (V main_v15) (V main_c_2) := by
  after_reads_simp; try rfl
theorem a2_v16 (V : Valuation τ sig (Elt F)) : st2 V main_v16 = fdiv8 (up8 (oh (asgE V))) (constantI S_ 32 256#32) := by
  unfold st2; rw [r2_v16, a1_v15, a1_c_2]; try rfl
theorem r3_v18 (V : Valuation τ sig (Elt F)) : after hostOps1_2 V main_v18 = mul8 (V main_v16) := by
  after_reads_simp; try rfl
theorem a3_v18 (V : Valuation τ sig (Elt F)) : st3 V main_v18 = d18 (asgE V) := by
  unfold st3; rw [r3_v18, a2_v16]; try rfl
theorem r4_v19 (V : Valuation τ sig (Elt F)) : after hostOps1_3 V main_v19 = cum8 (V main_v18) := by
  after_reads_simp; unfold cum8; exact ((fun x : IVec S8 32 => (rfl : StableHlo.TRef.toBuf (Val := Elt F) (.of main_v19 : StableHlo.TRef sig ⟨S8, .i32⟩) x = x)) _).trans (congrArg₂ (fun (z : IVec S8 32) (z0 : IVec S_ 32) => Host.reduceWindow IntOp.addi ![8] ![1] ![7] ![0] z z0 reduceWindows_S8_S8_w8s1p7_0 h_S_) rfl rfl)
theorem a4_v19 (V : Valuation τ sig (Elt F)) : st4 V main_v19 = cum8 (d18 (asgE V)) := by
  unfold st4; rw [r4_v19, a3_v18]; try rfl
theorem a4_v18 (V : Valuation τ sig (Elt F)) : st4 V main_v18 = d18 (asgE V) := (after_of_writes_sub hostOps1_3 _ hostOps1_3_writes (by decide)).trans (a3_v18 V)
theorem r5_v20 (V : Valuation τ sig (Elt F)) : after hostOps1_4 V main_v20 = (subi ((V main_v19) : IVec S8 32) (V main_v18) : IVec S8 32) := by
  after_reads_simp; try rfl
theorem a5_v20 (V : Valuation τ sig (Elt F)) : st5 V main_v20 = d20 (asgE V) := by
  unfold st5; rw [r5_v20, a4_v19, a4_v18]; try rfl
theorem a2_v10 (V : Valuation τ sig (Elt F)) : st2 V main_v10 = oh (asgE V) := (after_of_writes_sub hostOps1_1 _ hostOps1_1_writes (by decide)).trans (a1_v10 V)
theorem a3_v10 (V : Valuation τ sig (Elt F)) : st3 V main_v10 = oh (asgE V) := (after_of_writes_sub hostOps1_2 _ hostOps1_2_writes (by decide)).trans (a2_v10 V)
theorem a4_v10 (V : Valuation τ sig (Elt F)) : st4 V main_v10 = oh (asgE V) := (after_of_writes_sub hostOps1_3 _ hostOps1_3_writes (by decide)).trans (a3_v10 V)
theorem a5_v10 (V : Valuation τ sig (Elt F)) : st5 V main_v10 = oh (asgE V) := (after_of_writes_sub hostOps1_4 _ hostOps1_4_writes (by decide)).trans (a4_v10 V)
theorem cum_gen (f : IVec S8192x8 32 → IVec S_ 32 → IVec S8192x8 32) (V : Valuation τ sig (Elt F)) :
    (TRef.of main_v21 : TRef sig ⟨S8192x8, .i32⟩).toBuf (Val := Elt F) (f ((TRef.of main_v10 : TRef sig ⟨S8192x8, .i32⟩).ofBuf (V main_v10))
      ((TRef.of main_call2_call0_v0 : TRef sig ⟨S_, .i32⟩).ofBuf (Val := Elt F) ((TRef.of main_call2_call0_v0 : TRef sig ⟨S_, .i32⟩).toBuf (Val := Elt F)
        (broadcastInDim S_ ![] bcast_S_S_ ((TRef.of main_call2_call0_c : TRef sig ⟨S_, .i32⟩).ofBuf (Val := Elt F) ((TRef.of main_call2_call0_c : TRef sig ⟨S_, .i32⟩).toBuf (Val := Elt F) (constantI S_ 32 0#32)))))))
      = f (V main_v10) (broadcastInDim S_ ![] bcast_S_S_ (constantI S_ 32 0#32)) := rfl
seal Host.reduceWindow in
theorem r6_v21 (V : Valuation τ sig (Elt F)) : after hostOps1_5 V main_v21 = cumA (V main_v10) := by
  after_reads_simp; unfold cumA; exact (cum_gen (fun x v => Host.reduceWindow IntOp.addi ![8192, 1] ![1, 1] ![8191, 0] ![0, 0] x v reduceWindows_S8192x8_S8192x8_w8192s1p8191_0_w1s1p0_0 h_S_) V)
theorem a6_v21 (V : Valuation τ sig (Elt F)) : st6 V main_v21 = cumA (oh (asgE V)) := by
  unfold st6; rw [r6_v21, a5_v10]; try rfl
theorem a2_v2 (V : Valuation τ sig (Elt F)) : st2 V main_v2 = asgE V := (after_of_writes_sub hostOps1_1 _ hostOps1_1_writes (by decide)).trans (a1_v2 V)
theorem a3_v2 (V : Valuation τ sig (Elt F)) : st3 V main_v2 = asgE V := (after_of_writes_sub hostOps1_2 _ hostOps1_2_writes (by decide)).trans (a2_v2 V)
theorem a4_v2 (V : Valuation τ sig (Elt F)) : st4 V main_v2 = asgE V := (after_of_writes_sub hostOps1_3 _ hostOps1_3_writes (by decide)).trans (a3_v2 V)
theorem a5_v2 (V : Valuation τ sig (Elt F)) : st5 V main_v2 = asgE V := (after_of_writes_sub hostOps1_4 _ hostOps1_4_writes (by decide)).trans (a4_v2 V)
theorem a6_v2 (V : Valuation τ sig (Elt F)) : st6 V main_v2 = asgE V := (after_of_writes_sub hostOps1_5 _ hostOps1_5_writes (by decide)).trans (a5_v2 V)
theorem r7_v22 (V : Valuation τ sig (Elt F)) : after hostOps1_6 V main_v22 = d22 (V main_v2) := by
  after_reads_simp; try rfl
theorem a7_v22 (V : Valuation τ sig (Elt F)) : st7 V main_v22 = d22 (asgE V) := by
  unfold st7; rw [r7_v22, a6_v2]; try rfl
theorem a7_v21 (V : Valuation τ sig (Elt F)) : st7 V main_v21 = cumA (oh (asgE V)) := (after_of_writes_sub hostOps1_6 _ hostOps1_6_writes (by decide)).trans (a6_v21 V)
theorem r8_v23 (V : Valuation τ sig (Elt F)) : after hostOps1_7 V main_v23 = along (V main_v21) (V main_v22) := by
  after_reads_simp; try rfl
theorem a8_v23 (V : Valuation τ sig (Elt F)) : st8 V main_v23 = along (cumA (oh (asgE V))) (d22 (asgE V)) := by
  unfold st8; rw [r8_v23, a7_v21, a7_v22]; try rfl
theorem a6_v20 (V : Valuation τ sig (Elt F)) : st6 V main_v20 = d20 (asgE V) := (after_of_writes_sub hostOps1_5 _ hostOps1_5_writes (by decide)).trans (a5_v20 V)
theorem a7_v20 (V : Valuation τ sig (Elt F)) : st7 V main_v20 = d20 (asgE V) := (after_of_writes_sub hostOps1_6 _ hostOps1_6_writes (by decide)).trans (a6_v20 V)
theorem a8_v20 (V : Valuation τ sig (Elt F)) : st8 V main_v20 = d20 (asgE V) := (after_of_writes_sub hostOps1_7 _ hostOps1_7_writes (by decide)).trans (a7_v20 V)
theorem a7_v2 (V : Valuation τ sig (Elt F)) : st7 V main_v2 = asgE V := (after_of_writes_sub hostOps1_6 _ hostOps1_6_writes (by decide)).trans (a6_v2 V)
theorem a8_v2 (V : Valuation τ sig (Elt F)) : st8 V main_v2 = asgE V := (after_of_writes_sub hostOps1_7 _ hostOps1_7_writes (by decide)).trans (a7_v2 V)
theorem r9_v34 (V : Valuation τ sig (Elt F)) : after hostOps1_8 V main_v34 = posW (V main_v20) (V main_v23) (V main_v2) := by
  after_reads_simp; try rfl
theorem a9_v34 (V : Valuation τ sig (Elt F)) : st9 V main_v34 = d34 (asgE V) := by
  unfold st9; rw [r9_v34, a8_v20, a8_v23, a8_v2]; try rfl
theorem r9_v35 (V : Valuation τ sig (Elt F)) : after hostOps1_8 V main_v35 = (broadcastInDim S10240 ![] bcast_S_S10240 (constantI S_ 32 0#32) : IVec S10240 32) := by
  after_reads_simp; try rfl
theorem a9_v35 (V : Valuation τ sig (Elt F)) : st9 V main_v35 = (broadcastInDim S10240 ![] bcast_S_S10240 (constantI S_ 32 0#32) : IVec S10240 32) := by
  unfold st9; rw [r9_v35]; try rfl
theorem r9_v36 (V : Valuation τ sig (Elt F)) : after hostOps1_8 V main_v36 = iotaInDim S8192 32 0 := by
  after_reads_simp; try rfl
theorem a9_v36 (V : Valuation τ sig (Elt F)) : st9 V main_v36 = iotaInDim S8192 32 0 := by
  unfold st9; rw [r9_v36]; try rfl
theorem r9_c_8 (V : Valuation τ sig (Elt F)) : after hostOps1_8 V main_c_8 = constantI S_ 32 2#32 := by
  after_reads_simp; try rfl
theorem a9_c_8 (V : Valuation τ sig (Elt F)) : st9 V main_c_8 = constantI S_ 32 2#32 := by
  unfold st9; rw [r9_c_8]; try rfl
theorem r10_v37 (V : Valuation τ sig (Elt F)) : after hostOps1_9 V main_v37 = fdivA (V main_v36) (V main_c_8) := by
  after_reads_simp; try rfl
theorem a10_v37 (V : Valuation τ sig (Elt F)) : st10 V main_v37 = fdivA (iotaInDim S8192 32 0) (constantI S_ 32 2#32) := by
  unfold st10; rw [r10_v37, a9_v36, a9_c_8]; try rfl
theorem a1_v0 (V : Valuation τ sig (Elt F)) : st1 V main_v0 = V main_v0 := (after_of_writes_sub hostOps1 _ hostOps1_writes (by decide)).trans (a0_v0 V)
theorem a2_v0 (V : Valuation τ sig (Elt F)) : st2 V main_v0 = V main_v0 := (after_of_writes_sub hostOps1_1 _ hostOps1_1_writes (by decide)).trans (a1_v0 V)
theorem a3_v0 (V : Valuation τ sig (Elt F)) : st3 V main_v0 = V main_v0 := (after_of_writes_sub hostOps1_2 _ hostOps1_2_writes (by decide)).trans (a2_v0 V)
theorem a4_v0 (V : Valuation τ sig (Elt F)) : st4 V main_v0 = V main_v0 := (after_of_writes_sub hostOps1_3 _ hostOps1_3_writes (by decide)).trans (a3_v0 V)
theorem a5_v0 (V : Valuation τ sig (Elt F)) : st5 V main_v0 = V main_v0 := (after_of_writes_sub hostOps1_4 _ hostOps1_4_writes (by decide)).trans (a4_v0 V)
theorem a6_v0 (V : Valuation τ sig (Elt F)) : st6 V main_v0 = V main_v0 := (after_of_writes_sub hostOps1_5 _ hostOps1_5_writes (by decide)).trans (a5_v0 V)
theorem a7_v0 (V : Valuation τ sig (Elt F)) : st7 V main_v0 = V main_v0 := (after_of_writes_sub hostOps1_6 _ hostOps1_6_writes (by decide)).trans (a6_v0 V)
theorem a8_v0 (V : Valuation τ sig (Elt F)) : st8 V main_v0 = V main_v0 := (after_of_writes_sub hostOps1_7 _ hostOps1_7_writes (by decide)).trans (a7_v0 V)
theorem a9_v0 (V : Valuation τ sig (Elt F)) : st9 V main_v0 = V main_v0 := (after_of_writes_sub hostOps1_8 _ hostOps1_8_writes (by decide)).trans (a8_v0 V)
theorem a10_v0 (V : Valuation τ sig (Elt F)) : st10 V main_v0 = V main_v0 := (after_of_writes_sub hostOps1_9 _ hostOps1_9_writes (by decide)).trans (a9_v0 V)
theorem a10_v35 (V : Valuation τ sig (Elt F)) : st10 V main_v35 = (broadcastInDim S10240 ![] bcast_S_S10240 (constantI S_ 32 0#32) : IVec S10240 32) := (after_of_writes_sub hostOps1_9 _ hostOps1_9_writes (by decide)).trans (a9_v35 V)
theorem a10_v34 (V : Valuation τ sig (Elt F)) : st10 V main_v34 = d34 (asgE V) := (after_of_writes_sub hostOps1_9 _ hostOps1_9_writes (by decide)).trans (a9_v34 V)
theorem r11_v59 (V : Valuation τ sig (Elt F)) : after hostOps1_10 V main_v59 = rowsOf ((V main_v0) : FVec F S4096x1024 .f32) (putA ((V main_v35) : IVec S10240 32) (V main_v34) ((V main_v37) : IVec S8192 32)) := by
  after_reads_simp; try rfl
theorem a11_v59 (V : Valuation τ sig (Elt F)) : st11 V main_v59 = rowsOf (V main_v0 : FVec F S4096x1024 .f32) (d44 (asgE V)) := by
  unfold st11; rw [r11_v59, a10_v0, a10_v35, a10_v34, a10_v37]; try rfl
theorem a2_v3 (V : Valuation τ sig (Elt F)) : st2 V main_v3 = asgW V := (after_of_writes_sub hostOps1_1 _ hostOps1_1_writes (by decide)).trans (a1_v3 V)
theorem a3_v3 (V : Valuation τ sig (Elt F)) : st3 V main_v3 = asgW V := (after_of_writes_sub hostOps1_2 _ hostOps1_2_writes (by decide)).trans (a2_v3 V)
theorem a4_v3 (V : Valuation τ sig (Elt F)) : st4 V main_v3 = asgW V := (after_of_writes_sub hostOps1_3 _ hostOps1_3_writes (by decide)).trans (a3_v3 V)
theorem a5_v3 (V : Valuation τ sig (Elt F)) : st5 V main_v3 = asgW V := (after_of_writes_sub hostOps1_4 _ hostOps1_4_writes (by decide)).trans (a4_v3 V)
theorem a6_v3 (V : Valuation τ sig (Elt F)) : st6 V main_v3 = asgW V := (after_of_writes_sub hostOps1_5 _ hostOps1_5_writes (by decide)).trans (a5_v3 V)
theorem a7_v3 (V : Valuation τ sig (Elt F)) : st7 V main_v3 = asgW V := (after_of_writes_sub hostOps1_6 _ hostOps1_6_writes (by decide)).trans (a6_v3 V)
theorem a8_v3 (V : Valuation τ sig (Elt F)) : st8 V main_v3 = asgW V := (after_of_writes_sub hostOps1_7 _ hostOps1_7_writes (by decide)).trans (a7_v3 V)
theorem a9_v3 (V : Valuation τ sig (Elt F)) : st9 V main_v3 = asgW V := (after_of_writes_sub hostOps1_8 _ hostOps1_8_writes (by decide)).trans (a8_v3 V)
theorem a10_v3 (V : Valuation τ sig (Elt F)) : st10 V main_v3 = asgW V := (after_of_writes_sub hostOps1_9 _ hostOps1_9_writes (by decide)).trans (a9_v3 V)
theorem r11_v52 (V : Valuation τ sig (Elt F)) : after hostOps1_10 V main_v52 = putA (broadcastInDim S10240 ![] bcast_S_S10240 (constant S_ .f32 0x00000000#32 : FVec F S_ .f32)) (V main_v34) ((V main_v3) : FVec F S8192 .f32) := by
  after_reads_simp; try rfl
theorem a11_v52 (V : Valuation τ sig (Elt F)) : st11 V main_v52 = d52 (asgE V) (asgW V) := by
  unfold st11; rw [r11_v52, a10_v34, a10_v3]; try rfl
theorem a5_v18 (V : Valuation τ sig (Elt F)) : st5 V main_v18 = d18 (asgE V) := (after_of_writes_sub hostOps1_4 _ hostOps1_4_writes (by decide)).trans (a4_v18 V)
theorem a6_v18 (V : Valuation τ sig (Elt F)) : st6 V main_v18 = d18 (asgE V) := (after_of_writes_sub hostOps1_5 _ hostOps1_5_writes (by decide)).trans (a5_v18 V)
theorem a7_v18 (V : Valuation τ sig (Elt F)) : st7 V main_v18 = d18 (asgE V) := (after_of_writes_sub hostOps1_6 _ hostOps1_6_writes (by decide)).trans (a6_v18 V)
theorem a8_v18 (V : Valuation τ sig (Elt F)) : st8 V main_v18 = d18 (asgE V) := (after_of_writes_sub hostOps1_7 _ hostOps1_7_writes (by decide)).trans (a7_v18 V)
theorem a9_v18 (V : Valuation τ sig (Elt F)) : st9 V main_v18 = d18 (asgE V) := (after_of_writes_sub hostOps1_8 _ hostOps1_8_writes (by decide)).trans (a8_v18 V)
theorem a10_v18 (V : Valuation τ sig (Elt F)) : st10 V main_v18 = d18 (asgE V) := (after_of_writes_sub hostOps1_9 _ hostOps1_9_writes (by decide)).trans (a9_v18 V)
theorem a11_v18 (V : Valuation τ sig (Elt F)) : st11 V main_v18 = d18 (asgE V) := (after_of_writes_sub hostOps1_10 _ hostOps1_10_writes (by decide)).trans (a10_v18 V)
theorem r12_v60 (V : Valuation τ sig (Elt F)) : after hostOps1_11 V main_v60 = cum8 (V main_v18) := by
  after_reads_simp; unfold cum8; exact ((fun x : IVec S8 32 => (rfl : StableHlo.TRef.toBuf (Val := Elt F) (.of main_v60 : StableHlo.TRef sig ⟨S8, .i32⟩) x = x)) _).trans (congrArg₂ (fun (z : IVec S8 32) (z0 : IVec S_ 32) => Host.reduceWindow IntOp.addi ![8] ![1] ![7] ![0] z z0 reduceWindows_S8_S8_w8s1p7_0 h_S_) rfl rfl)
theorem a12_v60 (V : Valuation τ sig (Elt F)) : st12 V main_v60 = cum8 (d18 (asgE V)) := by
  unfold st12; rw [r12_v60, a11_v18]; try rfl
theorem r13_v72 (V : Valuation τ sig (Elt F)) : after hostOps1_12 V main_v72 = Cert.KernelIdeal.Own.blockExpert (V main_v60) := by
  after_reads_simp; try rfl
theorem a13_v72 (V : Valuation τ sig (Elt F)) : st13 V main_v72 = d72 (asgE V) := by
  unfold st13; rw [r13_v72, a12_v60]; try rfl
theorem a12_v18 (V : Valuation τ sig (Elt F)) : st12 V main_v18 = d18 (asgE V) := (after_of_writes_sub hostOps1_11 _ hostOps1_11_writes (by decide)).trans (a11_v18 V)
theorem r13_v73 (V : Valuation τ sig (Elt F)) : after hostOps1_12 V main_v73 = (Host.reduce IntOp.addi ((V main_v18) : IVec S8 32) (constantI S_ 32 0#32) reducesTo_S8_S_d0 h_S_ : IVec S_ 32) := by
  after_reads_simp; try rfl
theorem a13_v73 (V : Valuation τ sig (Elt F)) : st13 V main_v73 = (Host.reduce IntOp.addi (d18 (asgE V)) (constantI S_ 32 0#32) reducesTo_S8_S_d0 h_S_ : IVec S_ 32) := by
  unfold st13; rw [r13_v73, a12_v18]; try rfl
theorem r13_c_19 (V : Valuation τ sig (Elt F)) : after hostOps1_12 V main_c_19 = constantI S_ 32 256#32 := by
  after_reads_simp; try rfl
theorem a13_c_19 (V : Valuation τ sig (Elt F)) : st13 V main_c_19 = constantI S_ 32 256#32 := by
  unfold st13; rw [r13_c_19]; try rfl
theorem r14_v74 (V : Valuation τ sig (Elt F)) : after hostOps1_13 V main_v74 = fdiv0 (V main_v73) (V main_c_19) := by
  after_reads_simp; try rfl
theorem a14_v74 (V : Valuation τ sig (Elt F)) : st14 V main_v74 = fdiv0 (Host.reduce IntOp.addi (d18 (asgE V)) (constantI S_ 32 0#32) reducesTo_S8_S_d0 h_S_) (constantI S_ 32 256#32) := by
  unfold st14; rw [r14_v74, a13_v73, a13_c_19]; try rfl
theorem r15_v75 (V : Valuation τ sig (Elt F)) : after hostOps1_14 V main_v75 = (shapeCast S1 ((V main_v74) : IVec S_ 32) shapeCasts_S_S1 : IVec S1 32) := by
  after_reads_simp; try rfl
theorem a15_v75 (V : Valuation τ sig (Elt F)) : st15 V main_v75 = d75 (asgE V) := by
  unfold st15; rw [r15_v75, a14_v74]; try rfl
theorem a12_v52 (V : Valuation τ sig (Elt F)) : st12 V main_v52 = d52 (asgE V) (asgW V) := (after_of_writes_sub hostOps1_11 _ hostOps1_11_writes (by decide)).trans (a11_v52 V)
theorem a13_v52 (V : Valuation τ sig (Elt F)) : st13 V main_v52 = d52 (asgE V) (asgW V) := (after_of_writes_sub hostOps1_12 _ hostOps1_12_writes (by decide)).trans (a12_v52 V)
theorem a14_v52 (V : Valuation τ sig (Elt F)) : st14 V main_v52 = d52 (asgE V) (asgW V) := (after_of_writes_sub hostOps1_13 _ hostOps1_13_writes (by decide)).trans (a13_v52 V)
theorem r15_v76 (V : Valuation τ sig (Elt F)) : after hostOps1_14 V main_v76 = (shapeCast S10240x1 ((V main_v52) : FVec F S10240 .f32) shapeCasts_S10240_S10240x1 : FVec F S10240x1 .f32) := by
  after_reads_simp; try rfl
theorem a15_v76 (V : Valuation τ sig (Elt F)) : st15 V main_v76 = (shapeCast S10240x1 (d52 (asgE V) (asgW V)) shapeCasts_S10240_S10240x1 : FVec F S10240x1 .f32) := by
  unfold st15; rw [r15_v76, a14_v52]; try rfl
theorem a11_v34 (V : Valuation τ sig (Elt F)) : st11 V main_v34 = d34 (asgE V) := (after_of_writes_sub hostOps1_10 _ hostOps1_10_writes (by decide)).trans (a10_v34 V)
theorem a12_v34 (V : Valuation τ sig (Elt F)) : st12 V main_v34 = d34 (asgE V) := (after_of_writes_sub hostOps1_11 _ hostOps1_11_writes (by decide)).trans (a11_v34 V)
theorem a13_v34 (V : Valuation τ sig (Elt F)) : st13 V main_v34 = d34 (asgE V) := (after_of_writes_sub hostOps1_12 _ hostOps1_12_writes (by decide)).trans (a12_v34 V)
theorem a14_v34 (V : Valuation τ sig (Elt F)) : st14 V main_v34 = d34 (asgE V) := (after_of_writes_sub hostOps1_13 _ hostOps1_13_writes (by decide)).trans (a13_v34 V)
theorem a15_v34 (V : Valuation τ sig (Elt F)) : st15 V main_v34 = d34 (asgE V) := (after_of_writes_sub hostOps1_14 _ hostOps1_14_writes (by decide)).trans (a14_v34 V)
theorem a12_v59 (V : Valuation τ sig (Elt F)) : st12 V main_v59 = rowsOf (V main_v0 : FVec F S4096x1024 .f32) (d44 (asgE V)) := (after_of_writes_sub hostOps1_11 _ hostOps1_11_writes (by decide)).trans (a11_v59 V)
theorem a13_v59 (V : Valuation τ sig (Elt F)) : st13 V main_v59 = rowsOf (V main_v0 : FVec F S4096x1024 .f32) (d44 (asgE V)) := (after_of_writes_sub hostOps1_12 _ hostOps1_12_writes (by decide)).trans (a12_v59 V)
theorem a14_v59 (V : Valuation τ sig (Elt F)) : st14 V main_v59 = rowsOf (V main_v0 : FVec F S4096x1024 .f32) (d44 (asgE V)) := (after_of_writes_sub hostOps1_13 _ hostOps1_13_writes (by decide)).trans (a13_v59 V)
theorem a15_v59 (V : Valuation τ sig (Elt F)) : st15 V main_v59 = rowsOf (V main_v0 : FVec F S4096x1024 .f32) (d44 (asgE V)) := (after_of_writes_sub hostOps1_14 _ hostOps1_14_writes (by decide)).trans (a14_v59 V)
theorem a14_v72 (V : Valuation τ sig (Elt F)) : st14 V main_v72 = d72 (asgE V) := (after_of_writes_sub hostOps1_13 _ hostOps1_13_writes (by decide)).trans (a13_v72 V)
theorem a15_v72 (V : Valuation τ sig (Elt F)) : st15 V main_v72 = d72 (asgE V) := (after_of_writes_sub hostOps1_14 _ hostOps1_14_writes (by decide)).trans (a14_v72 V)
theorem a1_v1_2 (V : Valuation τ sig (Elt F)) : st1 V main_v1_2 = V main_v1_2 := (after_of_writes_sub hostOps1 _ hostOps1_writes (by decide)).trans (a0_v1_2 V)
theorem a2_v1_2 (V : Valuation τ sig (Elt F)) : st2 V main_v1_2 = V main_v1_2 := (after_of_writes_sub hostOps1_1 _ hostOps1_1_writes (by decide)).trans (a1_v1_2 V)
theorem a3_v1_2 (V : Valuation τ sig (Elt F)) : st3 V main_v1_2 = V main_v1_2 := (after_of_writes_sub hostOps1_2 _ hostOps1_2_writes (by decide)).trans (a2_v1_2 V)
theorem a4_v1_2 (V : Valuation τ sig (Elt F)) : st4 V main_v1_2 = V main_v1_2 := (after_of_writes_sub hostOps1_3 _ hostOps1_3_writes (by decide)).trans (a3_v1_2 V)
theorem a5_v1_2 (V : Valuation τ sig (Elt F)) : st5 V main_v1_2 = V main_v1_2 := (after_of_writes_sub hostOps1_4 _ hostOps1_4_writes (by decide)).trans (a4_v1_2 V)
theorem a6_v1_2 (V : Valuation τ sig (Elt F)) : st6 V main_v1_2 = V main_v1_2 := (after_of_writes_sub hostOps1_5 _ hostOps1_5_writes (by decide)).trans (a5_v1_2 V)
theorem a7_v1_2 (V : Valuation τ sig (Elt F)) : st7 V main_v1_2 = V main_v1_2 := (after_of_writes_sub hostOps1_6 _ hostOps1_6_writes (by decide)).trans (a6_v1_2 V)
theorem a8_v1_2 (V : Valuation τ sig (Elt F)) : st8 V main_v1_2 = V main_v1_2 := (after_of_writes_sub hostOps1_7 _ hostOps1_7_writes (by decide)).trans (a7_v1_2 V)
theorem a9_v1_2 (V : Valuation τ sig (Elt F)) : st9 V main_v1_2 = V main_v1_2 := (after_of_writes_sub hostOps1_8 _ hostOps1_8_writes (by decide)).trans (a8_v1_2 V)
theorem a10_v1_2 (V : Valuation τ sig (Elt F)) : st10 V main_v1_2 = V main_v1_2 := (after_of_writes_sub hostOps1_9 _ hostOps1_9_writes (by decide)).trans (a9_v1_2 V)
theorem a11_v1_2 (V : Valuation τ sig (Elt F)) : st11 V main_v1_2 = V main_v1_2 := (after_of_writes_sub hostOps1_10 _ hostOps1_10_writes (by decide)).trans (a10_v1_2 V)
theorem a12_v1_2 (V : Valuation τ sig (Elt F)) : st12 V main_v1_2 = V main_v1_2 := (after_of_writes_sub hostOps1_11 _ hostOps1_11_writes (by decide)).trans (a11_v1_2 V)
theorem a13_v1_2 (V : Valuation τ sig (Elt F)) : st13 V main_v1_2 = V main_v1_2 := (after_of_writes_sub hostOps1_12 _ hostOps1_12_writes (by decide)).trans (a12_v1_2 V)
theorem a14_v1_2 (V : Valuation τ sig (Elt F)) : st14 V main_v1_2 = V main_v1_2 := (after_of_writes_sub hostOps1_13 _ hostOps1_13_writes (by decide)).trans (a13_v1_2 V)
theorem a15_v1_2 (V : Valuation τ sig (Elt F)) : st15 V main_v1_2 = V main_v1_2 := (after_of_writes_sub hostOps1_14 _ hostOps1_14_writes (by decide)).trans (a14_v1_2 V)
theorem a1_arg2 (V : Valuation τ sig (Elt F)) : st1 V main_arg2 = V main_arg2 := (after_of_writes_sub hostOps1 _ hostOps1_writes (by decide)).trans (a0_arg2 V)
theorem a2_arg2 (V : Valuation τ sig (Elt F)) : st2 V main_arg2 = V main_arg2 := (after_of_writes_sub hostOps1_1 _ hostOps1_1_writes (by decide)).trans (a1_arg2 V)
theorem a3_arg2 (V : Valuation τ sig (Elt F)) : st3 V main_arg2 = V main_arg2 := (after_of_writes_sub hostOps1_2 _ hostOps1_2_writes (by decide)).trans (a2_arg2 V)
theorem a4_arg2 (V : Valuation τ sig (Elt F)) : st4 V main_arg2 = V main_arg2 := (after_of_writes_sub hostOps1_3 _ hostOps1_3_writes (by decide)).trans (a3_arg2 V)
theorem a5_arg2 (V : Valuation τ sig (Elt F)) : st5 V main_arg2 = V main_arg2 := (after_of_writes_sub hostOps1_4 _ hostOps1_4_writes (by decide)).trans (a4_arg2 V)
theorem a6_arg2 (V : Valuation τ sig (Elt F)) : st6 V main_arg2 = V main_arg2 := (after_of_writes_sub hostOps1_5 _ hostOps1_5_writes (by decide)).trans (a5_arg2 V)
theorem a7_arg2 (V : Valuation τ sig (Elt F)) : st7 V main_arg2 = V main_arg2 := (after_of_writes_sub hostOps1_6 _ hostOps1_6_writes (by decide)).trans (a6_arg2 V)
theorem a8_arg2 (V : Valuation τ sig (Elt F)) : st8 V main_arg2 = V main_arg2 := (after_of_writes_sub hostOps1_7 _ hostOps1_7_writes (by decide)).trans (a7_arg2 V)
theorem a9_arg2 (V : Valuation τ sig (Elt F)) : st9 V main_arg2 = V main_arg2 := (after_of_writes_sub hostOps1_8 _ hostOps1_8_writes (by decide)).trans (a8_arg2 V)
theorem a10_arg2 (V : Valuation τ sig (Elt F)) : st10 V main_arg2 = V main_arg2 := (after_of_writes_sub hostOps1_9 _ hostOps1_9_writes (by decide)).trans (a9_arg2 V)
theorem a11_arg2 (V : Valuation τ sig (Elt F)) : st11 V main_arg2 = V main_arg2 := (after_of_writes_sub hostOps1_10 _ hostOps1_10_writes (by decide)).trans (a10_arg2 V)
theorem a12_arg2 (V : Valuation τ sig (Elt F)) : st12 V main_arg2 = V main_arg2 := (after_of_writes_sub hostOps1_11 _ hostOps1_11_writes (by decide)).trans (a11_arg2 V)
theorem a13_arg2 (V : Valuation τ sig (Elt F)) : st13 V main_arg2 = V main_arg2 := (after_of_writes_sub hostOps1_12 _ hostOps1_12_writes (by decide)).trans (a12_arg2 V)
theorem a14_arg2 (V : Valuation τ sig (Elt F)) : st14 V main_arg2 = V main_arg2 := (after_of_writes_sub hostOps1_13 _ hostOps1_13_writes (by decide)).trans (a13_arg2 V)
theorem a15_arg2 (V : Valuation τ sig (Elt F)) : st15 V main_arg2 = V main_arg2 := (after_of_writes_sub hostOps1_14 _ hostOps1_14_writes (by decide)).trans (a14_arg2 V)
theorem a1_arg3 (V : Valuation τ sig (Elt F)) : st1 V main_arg3 = V main_arg3 := (after_of_writes_sub hostOps1 _ hostOps1_writes (by decide)).trans (a0_arg3 V)
theorem a2_arg3 (V : Valuation τ sig (Elt F)) : st2 V main_arg3 = V main_arg3 := (after_of_writes_sub hostOps1_1 _ hostOps1_1_writes (by decide)).trans (a1_arg3 V)
theorem a3_arg3 (V : Valuation τ sig (Elt F)) : st3 V main_arg3 = V main_arg3 := (after_of_writes_sub hostOps1_2 _ hostOps1_2_writes (by decide)).trans (a2_arg3 V)
theorem a4_arg3 (V : Valuation τ sig (Elt F)) : st4 V main_arg3 = V main_arg3 := (after_of_writes_sub hostOps1_3 _ hostOps1_3_writes (by decide)).trans (a3_arg3 V)
theorem a5_arg3 (V : Valuation τ sig (Elt F)) : st5 V main_arg3 = V main_arg3 := (after_of_writes_sub hostOps1_4 _ hostOps1_4_writes (by decide)).trans (a4_arg3 V)
theorem a6_arg3 (V : Valuation τ sig (Elt F)) : st6 V main_arg3 = V main_arg3 := (after_of_writes_sub hostOps1_5 _ hostOps1_5_writes (by decide)).trans (a5_arg3 V)
theorem a7_arg3 (V : Valuation τ sig (Elt F)) : st7 V main_arg3 = V main_arg3 := (after_of_writes_sub hostOps1_6 _ hostOps1_6_writes (by decide)).trans (a6_arg3 V)
theorem a8_arg3 (V : Valuation τ sig (Elt F)) : st8 V main_arg3 = V main_arg3 := (after_of_writes_sub hostOps1_7 _ hostOps1_7_writes (by decide)).trans (a7_arg3 V)
theorem a9_arg3 (V : Valuation τ sig (Elt F)) : st9 V main_arg3 = V main_arg3 := (after_of_writes_sub hostOps1_8 _ hostOps1_8_writes (by decide)).trans (a8_arg3 V)
theorem a10_arg3 (V : Valuation τ sig (Elt F)) : st10 V main_arg3 = V main_arg3 := (after_of_writes_sub hostOps1_9 _ hostOps1_9_writes (by decide)).trans (a9_arg3 V)
theorem a11_arg3 (V : Valuation τ sig (Elt F)) : st11 V main_arg3 = V main_arg3 := (after_of_writes_sub hostOps1_10 _ hostOps1_10_writes (by decide)).trans (a10_arg3 V)
theorem a12_arg3 (V : Valuation τ sig (Elt F)) : st12 V main_arg3 = V main_arg3 := (after_of_writes_sub hostOps1_11 _ hostOps1_11_writes (by decide)).trans (a11_arg3 V)
theorem a13_arg3 (V : Valuation τ sig (Elt F)) : st13 V main_arg3 = V main_arg3 := (after_of_writes_sub hostOps1_12 _ hostOps1_12_writes (by decide)).trans (a12_arg3 V)
theorem a14_arg3 (V : Valuation τ sig (Elt F)) : st14 V main_arg3 = V main_arg3 := (after_of_writes_sub hostOps1_13 _ hostOps1_13_writes (by decide)).trans (a13_arg3 V)
theorem a15_arg3 (V : Valuation τ sig (Elt F)) : st15 V main_arg3 = V main_arg3 := (after_of_writes_sub hostOps1_14 _ hostOps1_14_writes (by decide)).trans (a14_arg3 V)
theorem a1_arg4 (V : Valuation τ sig (Elt F)) : st1 V main_arg4 = V main_arg4 := (after_of_writes_sub hostOps1 _ hostOps1_writes (by decide)).trans (a0_arg4 V)
theorem a2_arg4 (V : Valuation τ sig (Elt F)) : st2 V main_arg4 = V main_arg4 := (after_of_writes_sub hostOps1_1 _ hostOps1_1_writes (by decide)).trans (a1_arg4 V)
theorem a3_arg4 (V : Valuation τ sig (Elt F)) : st3 V main_arg4 = V main_arg4 := (after_of_writes_sub hostOps1_2 _ hostOps1_2_writes (by decide)).trans (a2_arg4 V)
theorem a4_arg4 (V : Valuation τ sig (Elt F)) : st4 V main_arg4 = V main_arg4 := (after_of_writes_sub hostOps1_3 _ hostOps1_3_writes (by decide)).trans (a3_arg4 V)
theorem a5_arg4 (V : Valuation τ sig (Elt F)) : st5 V main_arg4 = V main_arg4 := (after_of_writes_sub hostOps1_4 _ hostOps1_4_writes (by decide)).trans (a4_arg4 V)
theorem a6_arg4 (V : Valuation τ sig (Elt F)) : st6 V main_arg4 = V main_arg4 := (after_of_writes_sub hostOps1_5 _ hostOps1_5_writes (by decide)).trans (a5_arg4 V)
theorem a7_arg4 (V : Valuation τ sig (Elt F)) : st7 V main_arg4 = V main_arg4 := (after_of_writes_sub hostOps1_6 _ hostOps1_6_writes (by decide)).trans (a6_arg4 V)
theorem a8_arg4 (V : Valuation τ sig (Elt F)) : st8 V main_arg4 = V main_arg4 := (after_of_writes_sub hostOps1_7 _ hostOps1_7_writes (by decide)).trans (a7_arg4 V)
theorem a9_arg4 (V : Valuation τ sig (Elt F)) : st9 V main_arg4 = V main_arg4 := (after_of_writes_sub hostOps1_8 _ hostOps1_8_writes (by decide)).trans (a8_arg4 V)
theorem a10_arg4 (V : Valuation τ sig (Elt F)) : st10 V main_arg4 = V main_arg4 := (after_of_writes_sub hostOps1_9 _ hostOps1_9_writes (by decide)).trans (a9_arg4 V)
theorem a11_arg4 (V : Valuation τ sig (Elt F)) : st11 V main_arg4 = V main_arg4 := (after_of_writes_sub hostOps1_10 _ hostOps1_10_writes (by decide)).trans (a10_arg4 V)
theorem a12_arg4 (V : Valuation τ sig (Elt F)) : st12 V main_arg4 = V main_arg4 := (after_of_writes_sub hostOps1_11 _ hostOps1_11_writes (by decide)).trans (a11_arg4 V)
theorem a13_arg4 (V : Valuation τ sig (Elt F)) : st13 V main_arg4 = V main_arg4 := (after_of_writes_sub hostOps1_12 _ hostOps1_12_writes (by decide)).trans (a12_arg4 V)
theorem a14_arg4 (V : Valuation τ sig (Elt F)) : st14 V main_arg4 = V main_arg4 := (after_of_writes_sub hostOps1_13 _ hostOps1_13_writes (by decide)).trans (a13_arg4 V)
theorem a15_arg4 (V : Valuation τ sig (Elt F)) : st15 V main_arg4 = V main_arg4 := (after_of_writes_sub hostOps1_14 _ hostOps1_14_writes (by decide)).trans (a14_arg4 V)

end Cert.Moe

end
-- ==== Proof.Layout.lean ====
/- The layout the host computes: the rows, tokens, weights and experts of the blocks, for any experts of the assignments. -/
module

public import proofs.«01_k».proof.Proof.DispatchI

@[expose] public section

set_option maxRecDepth 16384

noncomputable section

namespace Cert.Moe

open Cert.KernelIdeal Cert.KernelIdeal.Gen
open Idealize.ShloMosaic

variable {F : FTy → Type} [FloatOps F]
variable {e : ℕ → ℕ} {v2 : IVec S8192 32}

theorem psz_small (c : ℕ) : psz e c ≤ 8192 + 255 := by
  have h1 := psz_le e c
  have h2 : cnt e 8192 c ≤ 8192 := Nat.count_le _
  omega

/-- The padded sizes of the experts' groups, -/
theorem d18_at (h2 : ∀ a : Fin 8192, v2 (ix1 a) = BitVec.ofNat 32 (e a.val)) (he : ∀ a, e a < 8) (c : Fin 8) :
    d18 v2 (ix1 c) = BitVec.ofNat 32 (psz e c.val) := by
  have h : cnt e 8192 c.val ≤ 8192 := Nat.count_le _
  unfold d18
  exact mul8_at (fdiv8_at (n := 256) (up8_at h2 he c) rfl (by omega) (by norm_num) (by norm_num))

theorem cum18_at (h2 : ∀ a : Fin 8192, v2 (ix1 a) = BitVec.ofNat 32 (e a.val)) (he : ∀ a, e a < 8) (c : Fin 8) :
    cum8 (d18 v2) (ix1 c) = BitVec.ofNat 32 (gb e (c.val + 1)) := by
  rw [cum8_at (d18_at h2 he) c, gb_eq_sum]

/-- the groups' first rows, -/
theorem d20_at (h2 : ∀ a : Fin 8192, v2 (ix1 a) = BitVec.ofNat 32 (e a.val)) (he : ∀ a, e a < 8) (c : Fin 8) :
    d20 v2 (ix1 c) = BitVec.ofNat 32 (gb e c.val) := by
  unfold d20
  show cum8 (d18 v2) (ix1 c) - d18 v2 (ix1 c) = _
  have hs : gb e (c.val + 1) = gb e c.val + psz e c.val := rfl
  rw [cum18_at h2 he, d18_at h2 he, Routing.ofNat32_sub (by omega), hs, Nat.add_sub_cancel]

theorem d22_at (h2 : ∀ a : Fin 8192, v2 (ix1 a) = BitVec.ofNat 32 (e a.val)) (a : Fin 8192) :
    d22 v2 (ix2 a 0) = BitVec.ofNat 32 (e a.val) := by
  unfold d22; pointwise [h2]

/-- the assignments' rows, -/
theorem d34_at (h2 : ∀ a : Fin 8192, v2 (ix1 a) = BitVec.ofNat 32 (e a.val)) (he : ∀ a, e a < 8) (a : Fin 8192) :
    d34 v2 (ix1 a) = BitVec.ofNat 32 (pos e a.val) := by
  unfold d34
  refine posW_at h2 he (d20_at h2 he) (fun a => ?_) a
  rw [along_at (d22_at h2) he, cumA_at h2 he]

/-- the rows' tokens, -/
theorem d44_at (h2 : ∀ a : Fin 8192, v2 (ix1 a) = BitVec.ofNat 32 (e a.val)) (he : ∀ a, e a < 8) (a : Fin 8192) :
    d44 v2 (ix1 ⟨pos e a.val, pos_lt e he a.isLt⟩) = BitVec.ofNat 32 (a.val / 2) := by
  have := a.isLt
  unfold d44
  rw [putA_at he (d34_at h2 he) a]
  exact fdivA_at (n := 2) (k := a.val) rfl rfl (by omega) (by norm_num) (by norm_num)

/-- and weights, -/
theorem d52_at (h2 : ∀ a : Fin 8192, v2 (ix1 a) = BitVec.ofNat 32 (e a.val)) (he : ∀ a, e a < 8) (v3 : FVec F S8192 .f32) (a : Fin 8192) :
    d52 v2 v3 (ix1 ⟨pos e a.val, pos_lt e he a.isLt⟩) = v3 (ix1 a) := by
  unfold d52
  exact putA_at he (d34_at h2 he) a

theorem pos_div_lt (he : ∀ a, e a < 8) (a : Fin 8192) : pos e a.val / 256 < 40 := by have := pos_lt e he a.isLt; omega

/-- the blocks' experts, -/
theorem d72_at (h2 : ∀ a : Fin 8192, v2 (ix1 a) = BitVec.ofNat 32 (e a.val)) (he : ∀ a, e a < 8) (a : Fin 8192) :
    d72 v2 (ix1 ⟨pos e a.val / 256, pos_div_lt he a⟩) = BitVec.ofNat 32 (e a.val) := by
  unfold d72
  exact blockExpert_at (cum18_at h2 he) he _ (he _) (block_expert e he a.isLt)

/-- and how many are used. -/
theorem d75_at (h2 : ∀ a : Fin 8192, v2 (ix1 a) = BitVec.ofNat 32 (e a.val)) (he : ∀ a, e a < 8) :
    d75 v2 (ix1 0) = BitVec.ofNat 32 (gb e 8 / 256) := by
  have hr : Host.reduce IntOp.addi (d18 v2) (constantI S_ 32 0#32) reducesTo_S8_S_d0 h_S_ ix0 = BitVec.ofNat 32 (gb e 8) := by
    have h := Routing.reduce_sum (N := 8) (d18 v2) (psz e) (fun i => by rw [← ix1_eq_valueIdx]; exact d18_at h2 he i) reducesTo_S8_S_d0 h_S_
    rw [gb_eq_sum]
    refine Eq.trans ?_ (h.trans ?_)
    · rfl
    · rfl
  unfold d75
  have ht := gb_total e he
  have hf : fdiv0 (Host.reduce IntOp.addi (d18 v2) (constantI S_ 32 0#32) reducesTo_S8_S_d0 h_S_) (constantI S_ 32 256#32) ix0 = BitVec.ofNat 32 (gb e 8 / 256) :=
    Routing.pyDiv0_ap (Host.reduce IntOp.addi (d18 v2) (constantI S_ 32 0#32) reducesTo_S8_S_d0 h_S_) (constantI S_ 32 256#32) hr (by rfl : constantI S_ 32 256#32 _ = BitVec.ofNat 32 256) (by omega) (by norm_num) (by norm_num)
  rw [← hf]
  generalize fdiv0 (Host.reduce IntOp.addi (d18 v2) (constantI S_ 32 0#32) reducesTo_S8_S_d0 h_S_) (constantI S_ 32 256#32) = X
  pointwise []

end Cert.Moe

end
-- ==== Proof.GemmVal.lean ====
/- What the grouped product leaves in its result, row by row: each row's experts' network at its row of the input, times its weight. -/
module

public import proofs.«01_k».proof.Proof.Layout
public import Idealize.ShloMosaic.Lib.Pipeline.ValueKit

@[expose] public section

set_option maxRecDepth 16384

noncomputable section

namespace Cert.Moe

open Cert.KernelIdeal Cert.KernelIdeal.Gen Cert.KernelIdeal.Own
open Idealize.ShloMosaic Idealize.ShloMosaic.TcCoe
open Idealize.ShloMosaic.Pipeline (Dat Cfg Window)

/-! ### One row through an expert's network -/

/-- A row times a column of an expert's weights. -/
def lin (x : Fin 1024 → EReal) (Wg : FVec Ideal S8x1024x2688 .f32) (e : Fin 8) (f : Fin 2688) : EReal := ∑ k : Fin 1024, x k * Wg (ix3 e k f)

def sg (g : EReal) : EReal := Ideal.logistic g

/-- The hidden unit. -/
def hid (x : Fin 1024 → EReal) (Wg Wu : FVec Ideal S8x1024x2688 .f32) (e : Fin 8) (f : Fin 2688) : EReal := (lin x Wg e f * sg (lin x Wg e f)) * lin x Wu e f

/-- The row of the expert's output. -/
def ffn (x : Fin 1024 → EReal) (Wg Wu : FVec Ideal S8x1024x2688 .f32) (Wd : FVec Ideal S8x2688x1024 .f32) (e : Fin 8) (h : Fin 1024) : EReal :=
  ∑ f : Fin 2688, hid x Wg Wu e f * Wd (ix3 e f h)

theorem gpay1_at (i : S256x1024.Idx) : k1_pay1 (F := Ideal) i = (0 : EReal) := by
  unfold k1_pay1
  pointwise []

theorem gpay2_at (x0 : FVec Ideal S256x1024 .f32) (x1 x2 : FVec Ideal S1x1024x896 .f32) (xs : FVec Ideal S256x1024 .f32) (x3 : FVec Ideal S1x896x1024 .f32) (r : Fin 256) (h : Fin 1024) :
    k1_pay2 (F := Ideal) x0 x1 x2 xs x3 (ix2 r h) = (xs (ix2 r h) : EReal) + ∑ f : Fin 896,
      (((∑ k : Fin 1024, x0 (ix2 r k) * x1 (ix3 0 k f)) * sg (∑ k : Fin 1024, x0 (ix2 r k) * x1 (ix3 0 k f))) * (∑ k : Fin 1024, x0 (ix2 r k) * x2 (ix3 0 k f))) * x3 (ix3 0 f h) := by
  unfold k1_pay2
  pointwise []
  rfl

theorem gpay3_at (x : FVec Ideal S256x1024 .f32) (s : FVec Ideal S256x1 .f32) (r : Fin 256) (h : Fin 1024) :
    k1_pay3 (F := Ideal) x s (ix2 r h) = (x (ix2 r h) : EReal) * s (ix2 r 0) := by
  unfold k1_pay3
  pointwise []

/-! ### The blocks at coordinates -/

variable (a : (pcfg1 (F := Ideal)).Adm) (W : Dev nD → Valuation τ sig (Elt Ideal)) (c : Dev nD)

/-- The point of a block and a slice. -/
def pt (b : Fin 40) (j : Fin 3) : Fin (cfg1 a).N := ⟨b.val * 3 + j.val, by
  have hb := b.isLt; have hj := j.isLt
  exact lt_of_lt_of_eq (by omega : b.val * 3 + j.val < 120) N_1.symm⟩

theorem pt_0 (b : Fin 40) (j : Fin 3) : (grid1.coords (pt a b j) 0).val = b.val := by
  have hb := b.isLt; have hj := j.isLt
  have e : (grid1.coords (pt a b j) 0).val = (pt a b j).val / 3 % 40 := Pipeline.Grid.coords_val (G := grid1) (pt a b j) 0 (by decide) rfl
  rw [e]
  show (b.val * 3 + j.val) / 3 % 40 = _; omega
theorem pt_1 (b : Fin 40) (j : Fin 3) : (grid1.coords (pt a b j) 1).val = j.val := by
  have hb := b.isLt; have hj := j.isLt
  have e : (grid1.coords (pt a b j) 1).val = (pt a b j).val / 1 % 3 := Pipeline.Grid.coords_val (G := grid1) (pt a b j) 1 (by decide) rfl
  rw [e]
  show (b.val * 3 + j.val) / 1 % 3 = _; omega

theorem gX_at (b : Fin 40) (j : Fin 3) (r : Fin 256) (k : Fin 1024) :
    gX a W c (pt a b j) (ix2 r k) = (W c main_v59 : FVec Ideal S10240x1024 .f32) (ix2 ⟨b.val * 256 + r.val, by omega⟩ k) := by
  show (W c main_v59 : FVec Ideal S10240x1024 .f32) ((((cfg1 a).win 0).blk (pt a b j)).view.emb (ix2 r k)) = _
  refine congrArg (W c main_v59 : FVec Ideal S10240x1024 .f32) (funext fun ax => Fin.ext ?_)
  refine (Window.rect_emb_val ((cfg1 a).win 0) (pt a b j) (ix2 r k) ax rfl).trans ?_
  have h0 := pt_0 a b j
  have hb := b.isLt
  match ax with
  | ⟨0, _⟩ =>
    show (BitVec.ofNat 32 (grid1.coords (pt a b j) 0).val).toNat * 256 + r.val = b.val * 256 + r.val
    rw [h0, BitVec.toNat_ofNat, Nat.mod_eq_of_lt (by omega)]
  | ⟨1, _⟩ => show 0 * 1024 + k.val = k.val; omega

/-- The table's word of a block. -/
theorem tab_at (b : Fin 40) (j : Fin 3) :
    (a.1.at 0 (Rect.unit (s := S40) ![(Scalar.indexCast (BitVec.ofNat 32 (grid1.coords (pt a b j) 0).val)).toNat] S1.size (k1_off1_inb (grid1.coords (pt a b j)))) numel1_S1 : BitVec 32)
      = (a.1 0 : IVec S40 32) (ix1 b) := by
  refine congrArg (a.1 0 : IVec S40 32) (funext fun ax => Fin.ext ?_)
  have h0 := pt_0 a b j
  have hb := b.isLt
  match ax with
  | ⟨0, _⟩ =>
    show (BitVec.ofNat 32 (grid1.coords (pt a b j) 0).val).toNat + 1 * 0 = b.val
    rw [h0, BitVec.toNat_ofNat, Nat.mod_eq_of_lt (by omega)]
    exact Nat.add_zero _

theorem gG_at (b : Fin 40) (j : Fin 3) (k : Fin 1024) (f : Fin 896) (e : Fin 8) (he : (a.1 0 : IVec S40 32) (ix1 b) = BitVec.ofNat 32 e.val) :
    gG a W c (pt a b j) (ix3 0 k f) = (W c main_arg2 : FVec Ideal S8x1024x2688 .f32) (ix3 e k ⟨j.val * 896 + f.val, by omega⟩) := by
  show (W c main_arg2 : FVec Ideal S8x1024x2688 .f32) ((((cfg1 a).win 1).blk (pt a b j)).view.emb (ix3 0 k f)) = _
  refine congrArg (W c main_arg2 : FVec Ideal S8x1024x2688 .f32) (funext fun ax => Fin.ext ?_)
  refine (Window.rect_emb_val ((cfg1 a).win 1) (pt a b j) (ix3 0 k f) ax rfl).trans ?_
  have h1 := pt_1 a b j
  have hj := j.isLt
  have he' := e.isLt
  match ax with
  | ⟨0, _⟩ =>
    show (a.1.at 0 (Rect.unit (s := S40) ![(Scalar.indexCast (BitVec.ofNat 32 (grid1.coords (pt a b j) 0).val)).toNat] S1.size (k1_off1_inb (grid1.coords (pt a b j)))) numel1_S1 : BitVec 32).toNat * 1 + 0 = e.val
    rw [tab_at, he, BitVec.toNat_ofNat, Nat.mod_eq_of_lt (by omega)]
    exact (Nat.add_zero _).trans (Nat.mul_one _)
  | ⟨1, _⟩ => show 0 * 1024 + k.val = k.val; omega
  | ⟨2, _⟩ =>
    show (BitVec.ofNat 32 (grid1.coords (pt a b j) 1).val).toNat * 896 + f.val = j.val * 896 + f.val
    rw [h1, BitVec.toNat_ofNat, Nat.mod_eq_of_lt (by omega)]

theorem gU_at (b : Fin 40) (j : Fin 3) (k : Fin 1024) (f : Fin 896) (e : Fin 8) (he : (a.1 0 : IVec S40 32) (ix1 b) = BitVec.ofNat 32 e.val) :
    gU a W c (pt a b j) (ix3 0 k f) = (W c main_arg3 : FVec Ideal S8x1024x2688 .f32) (ix3 e k ⟨j.val * 896 + f.val, by omega⟩) := by
  show (W c main_arg3 : FVec Ideal S8x1024x2688 .f32) ((((cfg1 a).win 2).blk (pt a b j)).view.emb (ix3 0 k f)) = _
  refine congrArg (W c main_arg3 : FVec Ideal S8x1024x2688 .f32) (funext fun ax => Fin.ext ?_)
  refine (Window.rect_emb_val ((cfg1 a).win 2) (pt a b j) (ix3 0 k f) ax rfl).trans ?_
  have h1 := pt_1 a b j
  have hj := j.isLt
  have he' := e.isLt
  match ax with
  | ⟨0, _⟩ =>
    show (a.1.at 0 (Rect.unit (s := S40) ![(Scalar.indexCast (BitVec.ofNat 32 (grid1.coords (pt a b j) 0).val)).toNat] S1.size (k1_off1_inb (grid1.coords (pt a b j)))) numel1_S1 : BitVec 32).toNat * 1 + 0 = e.val
    rw [tab_at, he, BitVec.toNat_ofNat, Nat.mod_eq_of_lt (by omega)]
    exact (Nat.add_zero _).trans (Nat.mul_one _)
  | ⟨1, _⟩ => show 0 * 1024 + k.val = k.val; omega
  | ⟨2, _⟩ =>
    show (BitVec.ofNat 32 (grid1.coords (pt a b j) 1).val).toNat * 896 + f.val = j.val * 896 + f.val
    rw [h1, BitVec.toNat_ofNat, Nat.mod_eq_of_lt (by omega)]

theorem gD_at (b : Fin 40) (j : Fin 3) (f : Fin 896) (h : Fin 1024) (e : Fin 8) (he : (a.1 0 : IVec S40 32) (ix1 b) = BitVec.ofNat 32 e.val) :
    gD a W c (pt a b j) (ix3 0 f h) = (W c main_arg4 : FVec Ideal S8x2688x1024 .f32) (ix3 e ⟨j.val * 896 + f.val, by omega⟩ h) := by
  show (W c main_arg4 : FVec Ideal S8x2688x1024 .f32) ((((cfg1 a).win 3).blk (pt a b j)).view.emb (ix3 0 f h)) = _
  refine congrArg (W c main_arg4 : FVec Ideal S8x2688x1024 .f32) (funext fun ax => Fin.ext ?_)
  refine (Window.rect_emb_val ((cfg1 a).win 3) (pt a b j) (ix3 0 f h) ax rfl).trans ?_
  have h1 := pt_1 a b j
  have hj := j.isLt
  have he' := e.isLt
  match ax with
  | ⟨0, _⟩ =>
    show (a.1.at 0 (Rect.unit (s := S40) ![(Scalar.indexCast (BitVec.ofNat 32 (grid1.coords (pt a b j) 0).val)).toNat] S1.size (k1_off1_inb (grid1.coords (pt a b j)))) numel1_S1 : BitVec 32).toNat * 1 + 0 = e.val
    rw [tab_at, he, BitVec.toNat_ofNat, Nat.mod_eq_of_lt (by omega)]
    exact (Nat.add_zero _).trans (Nat.mul_one _)
  | ⟨1, _⟩ =>
    show (BitVec.ofNat 32 (grid1.coords (pt a b j) 1).val).toNat * 896 + f.val = j.val * 896 + f.val
    rw [h1, BitVec.toNat_ofNat, Nat.mod_eq_of_lt (by omega)]
  | ⟨2, _⟩ => show 0 * 1024 + h.val = h.val; omega

theorem gS_at (b : Fin 40) (j : Fin 3) (r : Fin 256) :
    gS a W c (pt a b j) (ix2 r 0) = (W c main_v76 : FVec Ideal S10240x1 .f32) (ix2 ⟨b.val * 256 + r.val, by omega⟩ 0) := by
  show (W c main_v76 : FVec Ideal S10240x1 .f32) ((((cfg1 a).win 4).blk (pt a b j)).view.emb (ix2 r 0)) = _
  refine congrArg (W c main_v76 : FVec Ideal S10240x1 .f32) (funext fun ax => Fin.ext ?_)
  refine (Window.rect_emb_val ((cfg1 a).win 4) (pt a b j) (ix2 r 0) ax rfl).trans ?_
  have h0 := pt_0 a b j
  have hb := b.isLt
  match ax with
  | ⟨0, _⟩ =>
    show (BitVec.ofNat 32 (grid1.coords (pt a b j) 0).val).toNat * 256 + r.val = b.val * 256 + r.val
    rw [h0, BitVec.toNat_ofNat, Nat.mod_eq_of_lt (by omega)]
  | ⟨1, _⟩ => show 0 * 1 + 0 = 0; omega

/-- A block below the count of used blocks is in use. -/
theorem live_at (b : Fin 40) (j : Fin 3) (n : ℕ) (hn : n < 2 ^ 31) (hu : (a.1 1 : IVec S1 32) (ix1 0) = BitVec.ofNat 32 n) (hb : b.val < n) : liveAt a c (pt a b j) := by
  have hw : usedWord (F := Ideal) c (a.1 1) = BitVec.ofNat 32 n := by
    rw [← hu]
    refine congrArg (a.1 1 : IVec S1 32) (funext fun ax => Fin.ext ?_)
    match ax with
    | ⟨0, _⟩ => rfl
  unfold liveAt cLive
  rw [hw, pt_0]
  have h : Scalar.cmpi .slt (BitVec.ofNat 32 b.val) (BitVec.ofNat 32 n) = 1#1 := by
    show BitVec.ofBool ((BitVec.ofNat 32 b.val).slt (BitVec.ofNat 32 n)) = 1#1
    have hb' := b.isLt
    rw [Routing.slt_ofNat32 (by omega) hn, decide_eq_true hb]; rfl
  rw [h]; rfl

/-! ### The accumulator and the result -/

/-- The row of the input a row of the layout holds. -/
abbrev rowX (R : Fin 10240) : Fin 1024 → EReal := fun k => (W c main_v59 : FVec Ideal S10240x1024 .f32) (ix2 R k)
abbrev aG : FVec Ideal S8x1024x2688 .f32 := W c main_arg2
abbrev aU : FVec Ideal S8x1024x2688 .f32 := W c main_arg3
abbrev aD : FVec Ideal S8x2688x1024 .f32 := W c main_arg4

/-- A slice's part of the row. -/
def part (R : Fin 10240) (e : Fin 8) (h : Fin 1024) (j : Fin 3) : EReal :=
  ∑ f : Fin 896, hid (rowX W c R) (aG W c) (aU W c) e ⟨j.val * 896 + f.val, by omega⟩ * aD W c (ix3 e ⟨j.val * 896 + f.val, by omega⟩ h)

theorem acc_at (b : Fin 40) (j : Fin 3) (r : Fin 256) (h : Fin 1024) (e : Fin 8) (he : (a.1 0 : IVec S40 32) (ix1 b) = BitVec.ofNat 32 e.val)
    (hl : liveAt a c (pt a b j)) :
    accN a W c ((pt a b j).val + 1) (ix2 r h) = (if j.val = 0 then (0 : EReal) else accN a W c (pt a b j).val (ix2 r h)) + part W c ⟨b.val * 256 + r.val, by omega⟩ e h j := by
  have key := congrFun (accN_succ a W c (pt a b j)) (ix2 r h)
  unfold gNext at key
  rw [if_pos hl] at key
  refine key.trans ((gpay2_at _ _ _ _ _ r h).trans ?_)
  have hm : (pt a b j).val % 3 = j.val := by
    have hj := j.isLt
    show (b.val * 3 + j.val) % 3 = _; omega
  simp only [hm]
  refine congrArg₂ (· + ·) ?_ ?_
  · by_cases h0 : j.val = 0
    · rw [if_pos h0, if_pos h0]; exact gpay1_at _
    · rw [if_neg h0, if_neg h0]
  · unfold part hid lin
    simp only [gX_at, gG_at a W c b j _ _ e he, gU_at a W c b j _ _ e he, gD_at a W c b j _ _ e he]

theorem acc_full (b : Fin 40) (r : Fin 256) (h : Fin 1024) (e : Fin 8) (he : (a.1 0 : IVec S40 32) (ix1 b) = BitVec.ofNat 32 e.val)
    (hl : ∀ j, liveAt a c (pt a b j)) :
    accN a W c ((pt a b 2).val + 1) (ix2 r h) = ffn (rowX W c ⟨b.val * 256 + r.val, by omega⟩) (aG W c) (aU W c) (aD W c) e h := by
  have h0 := acc_at a W c b 0 r h e he (hl 0)
  have h1 := acc_at a W c b 1 r h e he (hl 1)
  have h2 := acc_at a W c b 2 r h e he (hl 2)
  rw [if_pos (show ((0 : Fin 3) : ℕ) = 0 from rfl), zero_add] at h0
  rw [if_neg (show ¬((1 : Fin 3) : ℕ) = 0 by decide)] at h1
  rw [if_neg (show ¬((2 : Fin 3) : ℕ) = 0 by decide)] at h2
  have p1 : (pt a b 1).val = (pt a b 0).val + 1 := rfl
  have p2 : (pt a b 2).val = (pt a b 1).val + 1 := rfl
  rw [h2, p2, h1, p1, h0]
  unfold ffn
  rw [Fin.sum_univ_tiles 3 896 (by norm_num), Fin.sum_univ_three]
  rfl

/-- The output's blocks do not overlap. -/
theorem disj5 : ∀ t t' : Fin (cfg1 a).N, ((cfg1 a).win 5).flush t = true → ((cfg1 a).win 5).flush t' = true → t ≠ t' →
    Disjoint (((cfg1 a).win 5).blk t).view.set (((cfg1 a).win 5).blk t').view.set := by
  refine Window.hdisj_of_index_inj ((cfg1 a).win 5) fun t t' hf hf' h => Fin.ext ?_
  have ht : t.val < 120 := lt_of_lt_of_eq t.isLt N_1
  have ht' : t'.val < 120 := lt_of_lt_of_eq t'.isLt N_1
  have m := (flush1_5 a t).mp hf
  have m' := (flush1_5 a t').mp hf'
  have e0 : (grid1.coords t 0).val = t.val / 3 % 40 := Pipeline.Grid.coords_val (G := grid1) t 0 (by decide) rfl
  have e0' : (grid1.coords t' 0).val = t'.val / 3 % 40 := Pipeline.Grid.coords_val (G := grid1) t' 0 (by decide) rfl
  have hz : (BitVec.ofNat 32 (grid1.coords t 0).val).toNat = (BitVec.ofNat 32 (grid1.coords t' 0).val).toNat := congrFun h (0 : Fin 2)
  rw [e0, e0', BitVec.toNat_ofNat, BitVec.toNat_ofNat, Nat.mod_eq_of_lt (by omega), Nat.mod_eq_of_lt (by omega)] at hz
  omega

/-- Each row of a block in use ends at its expert's network at its row of the input, times its weight. -/
theorem out_at (b : Fin 40) (r : Fin 256) (h : Fin 1024) (e : Fin 8) (he : (a.1 0 : IVec S40 32) (ix1 b) = BitVec.ofNat 32 e.val)
    (hl : ∀ j, liveAt a c (pt a b j)) :
    ((dat1 a W c).arrAt 5 (cfg1 a).N : FVec Ideal S10240x1024 .f32) (ix2 ⟨b.val * 256 + r.val, by omega⟩ h)
      = ffn (rowX W c ⟨b.val * 256 + r.val, by omega⟩) (aG W c) (aU W c) (aD W c) e h * (W c main_v76 : FVec Ideal S10240x1 .f32) (ix2 ⟨b.val * 256 + r.val, by omega⟩ 0) := by
  have hf : ((cfg1 a).win 5).flush (pt a b 2) = true := (flush1_5 a _).mpr (by show (b.val * 3 + 2) % 3 = 2; omega)
  have hk := (dat1 a W c).arrAt_emb_eq_flushed 5 (disj5 a) (pt a b 2) hf (ix2 r h)
  have hemb : (((cfg1 a).win 5).blk (pt a b 2)).view.emb (ix2 r h) = (ix2 ⟨b.val * 256 + r.val, by omega⟩ h : S10240x1024.Idx) := by
    refine funext fun ax => Fin.ext ?_
    refine (Window.rect_emb_val ((cfg1 a).win 5) (pt a b 2) (ix2 r h) ax rfl).trans ?_
    have h0 := pt_0 a b 2
    have hb := b.isLt
    match ax with
    | ⟨0, _⟩ =>
      show (BitVec.ofNat 32 (grid1.coords (pt a b 2) 0).val).toNat * 256 + r.val = b.val * 256 + r.val
      rw [h0, BitVec.toNat_ofNat, Nat.mod_eq_of_lt (by omega)]
    | ⟨1, _⟩ => show 0 * 1024 + h.val = h.val; omega
  have h1 : ((dat1 a W c).arrAt 5 (cfg1 a).N : FVec Ideal S10240x1024 .f32) (ix2 ⟨b.val * 256 + r.val, by omega⟩ h) = (dat1 a W c).after 5 (pt a b 2) (ix2 r h) := by
    refine Eq.trans ?_ (hk.trans ?_)
    · exact congrArg ((dat1 a W c).arrAt 5 (cfg1 a).N : FVec Ideal S10240x1024 .f32) hemb.symm
    · rfl
  rw [h1, after1_5]
  refine (gpay3_at _ _ r h).trans ?_
  rw [acc_full a W c b r h e he hl, gS_at]

end Cert.Moe

end
-- ==== Proof.XOut.lean ====
/- The grouped product, at the rows the layout gives the assignments. -/
module

public import proofs.«01_k».proof.Proof.GemmVal
public import Idealize.ShloMosaic.Lib.Pointwise

@[expose] public section

set_option maxRecDepth 16384

noncomputable section

namespace Cert.Moe

open Cert.KernelIdeal Cert.KernelIdeal.Gen Cert.KernelIdeal.Own
open Idealize.ShloMosaic Idealize.ShloMosaic.TcCoe

variable (a : (pcfg1 (F := Ideal)).Adm) (W : Dev nD → Valuation τ sig (Elt Ideal)) (c : Dev nD)
variable {e : ℕ → ℕ} {v2 : IVec S8192 32}

/-- The row an assignment is given holds its expert's network at its token's row, times its weight. -/
theorem xout_at (h2 : ∀ a : Fin 8192, v2 (ix1 a) = BitVec.ofNat 32 (e a.val)) (he : ∀ a, e a < 8) (X : FVec Ideal S4096x1024 .f32) (v3 : FVec Ideal S8192 .f32)
    (ha0 : (a.1 0 : IVec S40 32) = d72 v2) (ha1 : (a.1 1 : IVec S1 32) = d75 v2)
    (hx : (W c main_v59 : FVec Ideal S10240x1024 .f32) = rowsOf X (d44 v2))
    (hs : (W c main_v76 : FVec Ideal S10240x1 .f32) = shapeCast S10240x1 (d52 v2 v3) shapeCasts_S10240_S10240x1) (i : Fin 8192) (h : Fin 1024) :
    ((dat1 a W c).arrAt 5 (cfg1 a).N : FVec Ideal S10240x1024 .f32) (ix2 ⟨pos e i.val, pos_lt e he i.isLt⟩ h)
      = ffn (fun k => X (ix2 ⟨i.val / 2, by omega⟩ k)) (aG W c) (aU W c) (aD W c) ⟨e i.val, he _⟩ h * v3 (ix1 i) := by
  have hp := pos_lt e he i.isLt
  have key := out_at a W c ⟨pos e i.val / 256, pos_div_lt he i⟩ ⟨pos e i.val % 256, Nat.mod_lt _ (by norm_num)⟩ h ⟨e i.val, he _⟩
    (by rw [ha0]; exact d72_at h2 he i)
    (fun j => live_at a c _ j (gb e 8 / 256) (by have := gb_total e he; omega) (by rw [ha1]; exact d75_at h2 he) (block_used e he i.isLt))
  have hR : ∀ hh, (⟨pos e i.val / 256 * 256 + pos e i.val % 256, hh⟩ : Fin 10240) = ⟨pos e i.val, hp⟩ := fun hh => Fin.ext (Nat.div_add_mod' _ _)
  simp only [hR] at key
  have hrow : rowX W c ⟨pos e i.val, hp⟩ = fun k => X (ix2 ⟨i.val / 2, by omega⟩ k) := funext fun k => by
    show (W c main_v59 : FVec Ideal S10240x1024 .f32) _ = _
    rw [hx]
    exact rowsOf_at (t := ⟨i.val / 2, by omega⟩) (d44_at h2 he i) k
  have hw : (W c main_v76 : FVec Ideal S10240x1 .f32) (ix2 ⟨pos e i.val, hp⟩ 0) = v3 (ix1 i) := by
    rw [hs, ← d52_at h2 he v3 i]
    generalize d52 v2 v3 = D
    pointwise []
  rw [hrow, hw] at key
  exact key

/-! ### The rows read back -/

/-- The rows of the tokens' first assignments, and of their second. -/
def pick0 (x : FVec Ideal S10240x1024 .f32) (v34 : IVec S8192 32) : FVec Ideal S4096x1024 .f32 :=
  Host.gather gather_S10240x1024_S4096x1_S4096x1024_1_0_n_n_0_1_11024 x (broadcastInDim S4096x1 ![0] bcast_S4096_S4096x1_0
    (select (cmpi .slt (shapeCast S4096 (extractStridedSlice S4096x1 ![0, 0] (shapeCast S4096x2 v34 shapeCasts_S8192_S4096x2) slices_S4096x2_S4096x1_0_0) shapeCasts_S4096x1_S4096) (broadcastInDim S4096 ![] bcast_S_S4096 (constantI S_ 32 0#32)))
      (addi (shapeCast S4096 (extractStridedSlice S4096x1 ![0, 0] (shapeCast S4096x2 v34 shapeCasts_S8192_S4096x2) slices_S4096x2_S4096x1_0_0) shapeCasts_S4096x1_S4096) (broadcastInDim S4096 ![] bcast_S_S4096 (constantI S_ 32 10240#32)))
      (shapeCast S4096 (extractStridedSlice S4096x1 ![0, 0] (shapeCast S4096x2 v34 shapeCasts_S8192_S4096x2) slices_S4096x2_S4096x1_0_0) shapeCasts_S4096x1_S4096)))
def pick1 (x : FVec Ideal S10240x1024 .f32) (v34 : IVec S8192 32) : FVec Ideal S4096x1024 .f32 :=
  Host.gather gather_S10240x1024_S4096x1_S4096x1024_1_0_n_n_0_1_11024 x (broadcastInDim S4096x1 ![0] bcast_S4096_S4096x1_0
    (select (cmpi .slt (shapeCast S4096 (extractStridedSlice S4096x1 ![0, 1] (shapeCast S4096x2 v34 shapeCasts_S8192_S4096x2) slices_S4096x2_S4096x1_0_1) shapeCasts_S4096x1_S4096) (broadcastInDim S4096 ![] bcast_S_S4096 (constantI S_ 32 0#32)))
      (addi (shapeCast S4096 (extractStridedSlice S4096x1 ![0, 1] (shapeCast S4096x2 v34 shapeCasts_S8192_S4096x2) slices_S4096x2_S4096x1_0_1) shapeCasts_S4096x1_S4096) (broadcastInDim S4096 ![] bcast_S_S4096 (constantI S_ 32 10240#32)))
      (shapeCast S4096 (extractStridedSlice S4096x1 ![0, 1] (shapeCast S4096x2 v34 shapeCasts_S8192_S4096x2) slices_S4096x2_S4096x1_0_1) shapeCasts_S4096x1_S4096)))

theorem half0 (v34 : IVec S8192 32) (t : Fin 4096) :
    shapeCast S4096 (extractStridedSlice S4096x1 ![0, 0] (shapeCast S4096x2 v34 shapeCasts_S8192_S4096x2) slices_S4096x2_S4096x1_0_0) shapeCasts_S4096x1_S4096 (ix1 t) = v34 (ix1 ⟨2 * t.val, by omega⟩) := by
  pointwise []
  exact congrArg v34 (congrArg Idealize.ShloMosaic.ix1 (Fin.ext (by show t.val * 2 = 2 * t.val; omega)))
theorem half1 (v34 : IVec S8192 32) (t : Fin 4096) :
    shapeCast S4096 (extractStridedSlice S4096x1 ![0, 1] (shapeCast S4096x2 v34 shapeCasts_S8192_S4096x2) slices_S4096x2_S4096x1_0_1) shapeCasts_S4096x1_S4096 (ix1 t) = v34 (ix1 ⟨2 * t.val + 1, by omega⟩) := by
  pointwise []
  exact congrArg v34 (congrArg Idealize.ShloMosaic.ix1 (Fin.ext (by show t.val * 2 + 1 = 2 * t.val + 1; omega)))

theorem pick0_at {x : FVec Ideal S10240x1024 .f32} {v34 : IVec S8192 32} {p : Fin 10240} {t : Fin 4096} (h : v34 (ix1 ⟨2 * t.val, by omega⟩) = BitVec.ofNat 32 p.val) (k : Fin 1024) :
    pick0 x v34 (ix2 t k) = x (ix2 p k) := by
  unfold pick0
  have hh := half0 v34 t
  rw [h] at hh
  generalize shapeCast S4096 (extractStridedSlice S4096x1 ![0, 0] (shapeCast S4096x2 v34 shapeCasts_S8192_S4096x2) slices_S4096x2_S4096x1_0_0) shapeCasts_S4096x1_S4096 = v at hh ⊢
  rw [ix2_eq_valueIdx, ix2_eq_valueIdx]
  refine Routing.gather_row (nb := 10240) (B := 1024) (n := 4096) gather_S10240x1024_S4096x1_S4096x1024_1_0_n_n_0_1_11024 rfl rfl rfl rfl rfl x _ t k p ?_ (by norm_num)
  rw [← ix2_eq_valueIdx]
  pointwise []
  rw [hh]; exact wrap_nat (by have := p.isLt; omega)

theorem pick1_at {x : FVec Ideal S10240x1024 .f32} {v34 : IVec S8192 32} {p : Fin 10240} {t : Fin 4096} (h : v34 (ix1 ⟨2 * t.val + 1, by omega⟩) = BitVec.ofNat 32 p.val) (k : Fin 1024) :
    pick1 x v34 (ix2 t k) = x (ix2 p k) := by
  unfold pick1
  have hh := half1 v34 t
  rw [h] at hh
  generalize shapeCast S4096 (extractStridedSlice S4096x1 ![0, 1] (shapeCast S4096x2 v34 shapeCasts_S8192_S4096x2) slices_S4096x2_S4096x1_0_1) shapeCasts_S4096x1_S4096 = v at hh ⊢
  rw [ix2_eq_valueIdx, ix2_eq_valueIdx]
  refine Routing.gather_row (nb := 10240) (B := 1024) (n := 4096) gather_S10240x1024_S4096x1_S4096x1024_1_0_n_n_0_1_11024 rfl rfl rfl rfl rfl x _ t k p ?_ (by norm_num)
  rw [← ix2_eq_valueIdx]
  pointwise []
  rw [hh]; exact wrap_nat (by have := p.isLt; omega)

end Cert.Moe

end
-- ==== Proof.TopTwo.lean ====
/- The softmax of one token's eight logits, and the two greatest of its eight entries: as a stable descending sort gives
   them and as two rounds of "the maximum, the first expert that attains it" give them. -/
module

public import Idealize.ShloMosaic.PureOps.Ideal.Laws
public import Idealize.ShloMosaic.Lib.SortFacts
public import Idealize.ShloMosaic.Lib.Pointwise

@[expose] public section

noncomputable section

namespace Cert.Moe

open Idealize.ShloMosaic

/-- One value for each of the eight experts. -/
abbrev Row := Fin 8 → EReal

/-- The greatest entry of a row. -/
def mx (r : Row) : EReal := Finset.univ.fold max ⊥ r

/-- The softmax of a row. -/
def soft (r : Row) : Row := fun e => Ideal.div (Ideal.exp (r e - mx r)) (∑ j, Ideal.exp (r j - mx r))

/-- The pattern of minus infinity denotes it. -/
theorem ofBits_negInf : Ideal.ofBits .f32 4286578688#32 = ⊥ := by simp [Ideal.ofBits, Ideal.ieee]

/-- The pattern of minus one denotes it. -/
theorem ofBits_negOne : Ideal.ofBits .f32 3212836864#32 = ((-1 : ℝ) : EReal) := by
  simp [Ideal.ofBits, Ideal.ieee]; rw [← EReal.coe_mul]; norm_num

/-- The exponential of minus infinity is zero. -/
theorem exp_bot : Ideal.exp ⊥ = 0 := rfl
/-- The exponential of a real is the real exponential. -/
theorem exp_coe (q : ℝ) : Ideal.exp (q : EReal) = ((Real.exp q : ℝ) : EReal) := rfl

/-- The greatest entry bounds every entry. -/
theorem le_mx (r : Row) (e : Fin 8) : r e ≤ mx r := Finset.le_sup (f := r) (Finset.mem_univ e)

/-- The greatest entry is attained. -/
theorem exists_mx (r : Row) : ∃ e, mx r = r e := by
  obtain ⟨e, -, h⟩ := Finset.exists_mem_eq_sup Finset.univ Finset.univ_nonempty r
  exact ⟨e, h⟩

/-- An entry that bounds every entry is the greatest. -/
theorem mx_eq (r : Row) (e : Fin 8) (h : ∀ j, r j ≤ r e) : mx r = r e := by
  obtain ⟨j, hj⟩ := exists_mx r
  exact le_antisymm (hj ▸ h j) (le_mx r e)

/-- A row of nonnegative reals. -/
def Good (p : Row) : Prop := ∀ e, ∃ q : ℝ, 0 ≤ q ∧ p e = (q : EReal)

/-- A row of nothing but the value below every real. -/
def Bad (p : Row) : Prop := ∀ e, p e = ⊥

/-- A real sum read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A softmax is a row of nonnegative reals, or (the greatest logit infinite) the corner's row. -/
theorem soft_cases (r : Row) : Good (soft r) ∨ Bad (soft r) := by
  obtain ⟨e0, he0⟩ := exists_mx r
  have hle := le_mx r
  generalize hM : mx r = M at he0 hle
  have hz : (∀ j, Ideal.exp (r j - M) = 0) → Bad (soft r) := fun h e => by
    unfold soft; rw [hM]; simp [h, Ideal.div]
  induction M using EReal.rec with
  | bot =>
    right; apply hz; intro j
    rw [show r j = ⊥ from le_bot_iff.mp (hle j)]; exact exp_bot
  | top => right; apply hz; intro j; rw [EReal.sub_top]; exact exp_bot
  | coe m =>
    left
    have hx : ∀ j, ∃ x : ℝ, 0 ≤ x ∧ Ideal.exp (r j - (m : EReal)) = (x : EReal) := by
      intro j
      have hj := hle j
      induction hr : r j using EReal.rec with
      | bot => exact ⟨0, le_refl _, by rw [EReal.bot_sub]; exact exp_bot⟩
      | top => rw [hr] at hj; exact absurd hj (by simp)
      | coe q => exact ⟨Real.exp (q - m), (Real.exp_pos _).le, by rw [← EReal.coe_sub]; rfl⟩
    choose x hx0 hx1 using hx
    have h0 : x e0 = 1 := by
      have := hx1 e0
      rw [← he0, ← EReal.coe_sub, sub_self] at this
      have h2 : Ideal.exp ((0 : ℝ) : EReal) = ((1 : ℝ) : EReal) := by rw [exp_coe, Real.exp_zero]
      rw [h2] at this
      exact (EReal.coe_injective this).symm
    have hs : 0 < ∑ j, x j := lt_of_lt_of_le (by rw [h0]; exact one_pos) (Finset.single_le_sum (f := x) (fun j _ => hx0 j) (Finset.mem_univ e0))
    intro e
    refine ⟨x e / ∑ j, x j, div_nonneg (hx0 e) hs.le, ?_⟩
    unfold soft
    rw [hM, hx1 e, Finset.sum_congr rfl fun j _ => hx1 j, ← coe_sum]
    unfold Ideal.div
    rw [if_neg (by exact_mod_cast hs.ne'), ← EReal.coe_inv, ← EReal.coe_mul, div_eq_mul_inv]

/-! ### The descending stable sort -/

/-- "Sorts strictly before", by value descending. -/
def gtB (p : Row) : Fin 8 → Fin 8 → Bool := fun a b => decide (p b < p a)

/-- The order the sort leaves: by value descending, ties by position. -/
def Bef (p : Row) (a b : Fin 8) : Prop := p b < p a ∨ p a = p b ∧ a < b

/-- The insertion keeps the order. -/
theorem pairwise_ins (p : Row) (a : Fin 8) (l : List (Fin 8)) (hl : l.Pairwise (Bef p)) (ha : ∀ b ∈ l, a < b) :
    (insertBefore (gtB p) a l).Pairwise (Bef p) := by
  induction l with
  | nil => exact List.pairwise_singleton _ _
  | cons b l ih =>
    rw [List.pairwise_cons] at hl
    unfold insertBefore
    by_cases h : p a < p b
    · rw [if_pos (by simpa [gtB] using h), List.pairwise_cons]
      refine ⟨fun c hc => ?_, ih hl.2 fun c hc => ha c (List.mem_cons_of_mem _ hc)⟩
      rcases List.mem_cons.mp ((perm_insertBefore (gtB p) a l).mem_iff.mp hc) with rfl | hc
      · exact Or.inl h
      · exact hl.1 c hc
    · rw [if_neg (by simpa [gtB] using h), List.pairwise_cons]
      have hba : p b ≤ p a := not_lt.mp h
      refine ⟨fun c hc => ?_, List.pairwise_cons.mpr hl⟩
      have hca : p c ≤ p a := by
        rcases List.mem_cons.mp hc with rfl | hc'
        · exact hba
        · rcases hl.1 c hc' with h' | ⟨h', -⟩
          · exact h'.le.trans hba
          · exact h'.symm.le.trans hba
      rcases hca.lt_or_eq with h' | h'
      · exact Or.inl h'
      · exact Or.inr ⟨h'.symm, ha c hc⟩

/-- The stable sort of increasing positions leaves them in order. -/
theorem pairwise_sort (p : Row) (l : List (Fin 8)) (hl : l.Pairwise (· < ·)) : (stableSort (gtB p) l).Pairwise (Bef p) := by
  induction l with
  | nil => exact List.Pairwise.nil
  | cons a l ih =>
    rw [List.pairwise_cons] at hl
    unfold stableSort
    exact pairwise_ins p a _ (ih hl.2) fun b hb => hl.1 b ((perm_stableSort (gtB p) l).mem_iff.mp hb)

/-- An earlier place of the sort holds an expert before a later place's. -/
theorem bef_sortedFrom (p : Row) (i j : Fin 8) (hij : i < j) : Bef p (sortedFrom (gtB p) i) (sortedFrom (gtB p) j) := by
  have h := List.pairwise_iff_get.mp (pairwise_sort p (List.finRange 8) (List.pairwise_lt_finRange 8))
  exact h (i.cast (length_sortPositions 8 _).symm) (j.cast (length_sortPositions 8 _).symm) hij

/-- The expert in the sort's first place. -/
def k1 (p : Row) : Fin 8 := sortedFrom (gtB p) 0
/-- The expert in the sort's second place. -/
def k2 (p : Row) : Fin 8 := sortedFrom (gtB p) 1

/-- The first place is before every other expert. -/
theorem bef_k1 (p : Row) (j : Fin 8) (h : j ≠ k1 p) : Bef p (k1 p) j := by
  obtain ⟨k, rfl⟩ := sortedFrom_surjective (gtB p) j
  refine bef_sortedFrom p 0 k (Fin.pos_of_ne_zero fun hk => h ?_)
  rw [hk]; rfl

/-- The second place is another expert than the first. -/
theorem k2_ne (p : Row) : k2 p ≠ k1 p := fun h => absurd (sortedFrom_injective _ h) (by decide)

/-- The second place is before every expert but the first. -/
theorem bef_k2 (p : Row) (j : Fin 8) (h : j ≠ k1 p) (h' : j ≠ k2 p) : Bef p (k2 p) j := by
  obtain ⟨k, rfl⟩ := sortedFrom_surjective (gtB p) j
  refine bef_sortedFrom p 1 k ?_
  have h0 : k ≠ 0 := fun hk => h (by rw [hk]; rfl)
  have h1 : k ≠ 1 := fun hk => h' (by rw [hk]; rfl)
  omega

/-! ### Two rounds of the maximum -/

/-- The word of the first expert whose entry attains the maximum: the least position where it does, 8 where it does not. -/
def first (p : Row) : BitVec 32 :=
  Finset.univ.fold IntOp.minsi (2147483647#32) fun e : Fin 8 => if mx p ≤ p e then BitVec.ofNat 32 e.val else 8#32

/-- The row with one expert's entry struck out. -/
def masked (p : Row) (i : Fin 8) : Row := fun e => if e = i then ((-1 : ℝ) : EReal) else p e

/-- A word at most every folded word is at most their fold. -/
theorem le_fold_minsi (w b : BitVec 32) (f : Fin 8 → BitVec 32) (s : Finset (Fin 8)) (hb : w.toInt ≤ b.toInt)
    (h : ∀ j ∈ s, w.toInt ≤ (f j).toInt) : w.toInt ≤ (s.fold IntOp.minsi b f).toInt := by
  induction s using Finset.induction_on with
  | empty => rw [Finset.fold_empty]; exact hb
  | insert a s ha ih =>
    rw [Finset.fold_insert ha]
    have h1 := h a (Finset.mem_insert_self a s)
    have h2 := ih fun j hj => h j (Finset.mem_insert_of_mem hj)
    unfold IntOp.minsi
    split
    · exact h1
    · exact h2

/-- The first position present, of any predicate on the eight. -/
theorem minsi_first (c : Fin 8 → Prop) [DecidablePred c] (i : Fin 8) (hi : c i) (hlt : ∀ j < i, ¬ c j) :
    Finset.univ.fold IntOp.minsi (2147483647#32) (fun e : Fin 8 => if c e then BitVec.ofNat 32 e.val else 8#32) = BitVec.ofNat 32 i.val := by
  have hw : ∀ a : Fin 8, (BitVec.ofNat 32 a.val).toInt = (a.val : ℤ) := by decide
  have h8 : (8#32).toInt = 8 := by decide
  rw [← Finset.insert_erase (Finset.mem_univ i), Finset.fold_insert (Finset.notMem_erase i _), if_pos hi]
  have hle := le_fold_minsi (BitVec.ofNat 32 i.val) (2147483647#32) (fun e : Fin 8 => if c e then BitVec.ofNat 32 e.val else 8#32)
    (Finset.univ.erase i) (by rw [hw, show (2147483647#32).toInt = 2147483647 by decide]; omega) fun j hj => by
      have hji : j ≠ i := Finset.ne_of_mem_erase hj
      by_cases hc : c j
      · have : ¬ j < i := fun h => hlt j h hc
        simp only [if_pos hc]; rw [hw, hw]; omega
      · simp only [if_neg hc]; rw [hw, h8]; omega
  generalize Finset.fold IntOp.minsi (2147483647#32) (fun e : Fin 8 => if c e then BitVec.ofNat 32 e.val else 8#32) (Finset.univ.erase i) = v at hle
  unfold IntOp.minsi
  split
  · rfl
  · rename_i h
    rw [BitVec.slt_iff_toInt_lt] at h
    exact (BitVec.eq_of_toInt_eq (by omega)).symm

/-- The first round finds an expert that is before every other. -/
theorem first_eq (p : Row) (i : Fin 8) (h : ∀ j, j ≠ i → Bef p i j) : first p = BitVec.ofNat 32 i.val ∧ mx p = p i := by
  have hle : ∀ j, p j ≤ p i := fun j => by
    by_cases hj : j = i
    · rw [hj]
    · rcases h j hj with h' | ⟨h', -⟩
      · exact h'.le
      · exact h'.symm.le
  have hm := mx_eq p i hle
  refine ⟨?_, hm⟩
  unfold first
  refine minsi_first (fun e => mx p ≤ p e) i hm.le fun j hj hc => ?_
  rw [hm] at hc
  rcases h j hj.ne with h' | ⟨-, h'⟩
  · exact absurd hc (not_le.mpr h')
  · exact absurd hj (not_lt.mpr h'.le)

/-- On nonnegative reals the second round finds the sort's second place. -/
theorem second_eq (p : Row) (hp : Good p) :
    first (masked p (k1 p)) = BitVec.ofNat 32 (k2 p).val ∧ mx (masked p (k1 p)) = p (k2 p) := by
  have e2 : masked p (k1 p) (k2 p) = p (k2 p) := if_neg (k2_ne p)
  have := first_eq (masked p (k1 p)) (k2 p) fun j hj => by
    unfold Bef
    rw [e2]
    by_cases h1 : j = k1 p
    · left
      rw [show masked p (k1 p) j = ((-1 : ℝ) : EReal) from if_pos h1]
      obtain ⟨q, hq, e⟩ := hp (k2 p)
      rw [e]; exact_mod_cast lt_of_lt_of_le (by norm_num) hq
    · rw [show masked p (k1 p) j = p j from if_neg h1]
      exact bef_k2 p j h1 hj
  exact ⟨this.1, this.2.trans e2⟩

/-- On the corner's row the first round finds expert 0. -/
theorem first_bad (p : Row) (hp : Bad p) : first p = 0#32 ∧ mx p = ⊥ := by
  have := first_eq p 0 fun j hj => Or.inr ⟨by rw [hp, hp], Fin.pos_of_ne_zero hj⟩
  exact ⟨this.1, this.2.trans (hp 0)⟩

/-- On the corner's row the second round finds expert 0 again, at the value put in its place. -/
theorem second_bad (p : Row) (hp : Bad p) : first (masked p 0) = 0#32 ∧ mx (masked p 0) = ((-1 : ℝ) : EReal) := by
  have := first_eq (masked p 0) 0 fun j hj => Or.inl (by
    rw [show masked p 0 j = p j from if_neg hj, hp, show masked p 0 0 = ((-1 : ℝ) : EReal) from if_pos rfl]
    exact EReal.bot_lt_coe _)
  exact ⟨this.1, this.2.trans (if_pos rfl)⟩

end Cert.Moe
-- ==== Proof.RouterVal.lean ====
/- The router's values read at an index: both programs' probabilities are one softmax per token; the kernel's two chosen experts
   and their weights, and the reference's, in that softmax's terms. -/
module

public import proofs.«01_k».proof.Proof.TopTwo
public import proofs.«01_k».proof.Proof.RouterI
public import proofs.«01_k».proof.Proof.Gen.ReferenceIdeal.Read
public import Idealize.ShloMosaic.Lib.Pointwise
public import Idealize.ShloMosaic.Lib.ValueIdx

@[expose] public section

noncomputable section

namespace Cert.Moe

open Cert.KernelIdeal Cert.KernelIdeal.Gen Cert.KernelIdeal.Own
open Cert.ReferenceIdeal.Read
open Idealize.ShloMosaic

/-- A token's logit for each expert. -/
def logit (X : Vec Ideal S4096x1024 .f32) (W : Vec Ideal S1024x8 .f32) (t : Fin 4096) : Row :=
  fun e => ∑ k : Fin 1024, X (ix2 t k) * W (ix2 k e)

/-- A token's probability for each expert. -/
def prob (X : Vec Ideal S4096x1024 .f32) (W : Vec Ideal S1024x8 .f32) (t : Fin 4096) : Row := soft (logit X W t)

/-- Each token's probabilities are nonnegative reals, or the corner's row. -/
theorem prob_cases (X : Vec Ideal S4096x1024 .f32) (W : Vec Ideal S1024x8 .f32) (t : Fin 4096) :
    Good (prob X W t) ∨ Bad (prob X W t) := soft_cases _

/-- A row cannot be both. -/
theorem not_good_of_bad {p : Row} (h : Bad p) : ¬ Good p := fun hg => by
  obtain ⟨q, -, e⟩ := hg 0
  rw [h 0] at e
  exact absurd e (EReal.bot_ne_coe q)

open Classical in
/-- The kernel's first expert. -/
def e1 (p : Row) : Fin 8 := if Good p then k1 p else 0
open Classical in
/-- The kernel's second expert. -/
def e2 (p : Row) : Fin 8 := if Good p then k2 p else 0

/-- The small constant in the weights' denominator. -/
def eps : EReal := Ideal.ofBits .f32 814313567#32

open Classical in
/-- The first expert's weight. -/
def w1 (p : Row) : EReal := if Good p then Ideal.div (p (k1 p)) (p (k1 p) + p (k2 p) + eps) else 0
open Classical in
/-- The second expert's weight. -/
def w2 (p : Row) : EReal := if Good p then Ideal.div (p (k2 p)) (p (k1 p) + p (k2 p) + eps) else 0

/-- Anything over minus infinity is zero. -/
theorem div_bot (x : EReal) : Ideal.div x ⊥ = 0 := by simp [Ideal.div]

/-! ### The kernel's router -/

/-- The kernel's probabilities. -/
theorem pay2_at (X : Vec Ideal S4096x1024 .f32) (W : Vec Ideal S1024x8 .f32) (t : Fin 4096) (e : Fin 8) :
    k0_pay2 X W (ix2 t e) = prob X W t e := by
  pointwise [k0_pay2]
  simp only [ofBits_negInf]
  rfl

/-- The kernel's first maximum. -/
theorem pay3_at (X : Vec Ideal S4096x1024 .f32) (W : Vec Ideal S1024x8 .f32) (t : Fin 4096) (z : Fin 1) :
    k0_pay3 X W (ix2 t z) = mx (prob X W t) := by
  unfold k0_pay3
  have h := pay2_at X W t
  generalize k0_pay2 X W = p at h
  pointwise []
  simp only [ofBits_negInf, h]
  rfl

/-- The kernel's first expert's word, as the first round's. -/
theorem pay4_at' (X : Vec Ideal S4096x1024 .f32) (W : Vec Ideal S1024x8 .f32) (t : Fin 4096) (z : Fin 1) :
    k0_pay4 X W (ix2 t z) = first (prob X W t) := by
  unfold k0_pay4 k0_pay3
  have h := pay2_at X W t
  generalize k0_pay2 X W = p at h
  pointwise []
  simp only [ofBits_negInf, h]
  rfl

/-- The first round finds the kernel's first expert. -/
theorem first_prob {p : Row} (h : Good p ∨ Bad p) : first p = BitVec.ofNat 32 (e1 p).val := by
  unfold e1
  by_cases hg : Good p
  · rw [if_pos hg]; exact (first_eq p (k1 p) (bef_k1 p)).1
  · rw [if_neg hg]; exact (first_bad p (h.resolve_left hg)).1

/-- The kernel's first expert's word. -/
theorem pay4_at (X : Vec Ideal S4096x1024 .f32) (W : Vec Ideal S1024x8 .f32) (t : Fin 4096) (z : Fin 1) :
    k0_pay4 X W (ix2 t z) = BitVec.ofNat 32 (e1 (prob X W t)).val := (pay4_at' X W t z).trans (first_prob (prob_cases X W t))

/-- Two experts' words are equal just if the experts are. -/
theorem ofNat_eq_iff (a b : Fin 8) : BitVec.ofNat 32 a.val = BitVec.ofNat 32 b.val ↔ a = b := by
  revert a b; decide

/-- The kernel's probabilities with the first expert's struck out. -/
theorem pay5_at (X : Vec Ideal S4096x1024 .f32) (W : Vec Ideal S1024x8 .f32) (t : Fin 4096) (e : Fin 8) :
    k0_pay5 X W (ix2 t e) = masked (prob X W t) (e1 (prob X W t)) e := by
  unfold k0_pay5
  have h := pay2_at X W t
  have h4 := pay4_at X W t 0
  generalize k0_pay2 X W = p at h
  generalize k0_pay4 X W = q at h4
  pointwise []
  simp only [ofBits_negOne, h, h4]
  unfold masked
  by_cases he : e = e1 (prob X W t)
  · rw [if_pos he, ← he]; simp [IntOp.cmpi, Scalar.select]
  · rw [if_neg he]
    have : ¬ BitVec.ofNat 32 e.val = BitVec.ofNat 32 (e1 (prob X W t)).val := fun h => he ((ofNat_eq_iff _ _).mp h)
    simp [IntOp.cmpi, Scalar.select, beq_eq_false_iff_ne.mpr this]

/-- The kernel's second maximum. -/
theorem pay6_at (X : Vec Ideal S4096x1024 .f32) (W : Vec Ideal S1024x8 .f32) (t : Fin 4096) (z : Fin 1) :
    k0_pay6 X W (ix2 t z) = mx (masked (prob X W t) (e1 (prob X W t))) := by
  unfold k0_pay6
  have h := pay5_at X W t
  generalize k0_pay5 X W = p at h
  pointwise []
  simp only [ofBits_negInf, h]
  rfl

/-- The second round finds the kernel's second expert. -/
theorem second_prob {p : Row} (h : Good p ∨ Bad p) : first (masked p (e1 p)) = BitVec.ofNat 32 (e2 p).val := by
  unfold e1 e2
  by_cases hg : Good p
  · rw [if_pos hg, if_pos hg]; exact (second_eq p hg).1
  · rw [if_neg hg, if_neg hg]; exact (second_bad p (h.resolve_left hg)).1

/-- The kernel's second expert's word. -/
theorem pay7_at (X : Vec Ideal S4096x1024 .f32) (W : Vec Ideal S1024x8 .f32) (t : Fin 4096) (z : Fin 1) :
    k0_pay7 X W (ix2 t z) = BitVec.ofNat 32 (e2 (prob X W t)).val := by
  rw [← second_prob (prob_cases X W t)]
  unfold k0_pay7 k0_pay6
  have h := pay5_at X W t
  generalize k0_pay5 X W = p at h
  pointwise []
  simp only [ofBits_negInf, h]
  rfl

/-- The chosen experts' words. -/
theorem rIdx_at0 (X : Vec Ideal S4096x1024 .f32) (W : Vec Ideal S1024x8 .f32) (t : Fin 4096) :
    rIdx X W (ix2 t 0) = BitVec.ofNat 32 (e1 (prob X W t)).val := by
  rw [← pay4_at X W t 0]; unfold rIdx k0_pay8
  generalize k0_pay4 X W = p
  generalize k0_pay7 X W = q
  pointwise []
theorem rIdx_at1 (X : Vec Ideal S4096x1024 .f32) (W : Vec Ideal S1024x8 .f32) (t : Fin 4096) :
    rIdx X W (ix2 t 1) = BitVec.ofNat 32 (e2 (prob X W t)).val := by
  rw [← pay7_at X W t 0]; unfold rIdx k0_pay8
  generalize k0_pay4 X W = p
  generalize k0_pay7 X W = q
  pointwise []

/-- The chosen experts' weights. -/
theorem rVal_at0 (X : Vec Ideal S4096x1024 .f32) (W : Vec Ideal S1024x8 .f32) (t : Fin 4096) :
    rVal X W (ix2 t 0) = w1 (prob X W t) := by
  have h3 := pay3_at X W t 0
  have h6 := pay6_at X W t 0
  unfold rVal k0_pay9
  generalize k0_pay3 X W = p at h3
  generalize k0_pay6 X W = q at h6
  pointwise []
  rw [h3, h6]
  unfold w1
  by_cases hg : Good (prob X W t)
  · rw [if_pos hg, (first_eq (prob X W t) _ (bef_k1 _)).2, show e1 (prob X W t) = k1 (prob X W t) from if_pos hg, (second_eq _ hg).2]; rfl
  · have hb := (prob_cases X W t).resolve_left hg
    rw [if_neg hg, (first_bad _ hb).2, EReal.bot_add, EReal.bot_add, div_bot]
theorem rVal_at1 (X : Vec Ideal S4096x1024 .f32) (W : Vec Ideal S1024x8 .f32) (t : Fin 4096) :
    rVal X W (ix2 t 1) = w2 (prob X W t) := by
  have h3 := pay3_at X W t 0
  have h6 := pay6_at X W t 0
  unfold rVal k0_pay9
  generalize k0_pay3 X W = p at h3
  generalize k0_pay6 X W = q at h6
  pointwise []
  rw [h3, h6]
  unfold w2
  by_cases hg : Good (prob X W t)
  · rw [if_pos hg, (first_eq (prob X W t) _ (bef_k1 _)).2, show e1 (prob X W t) = k1 (prob X W t) from if_pos hg, (second_eq _ hg).2]; rfl
  · have hb := (prob_cases X W t).resolve_left hg
    rw [if_neg hg, (first_bad _ hb).2, EReal.bot_add, EReal.bot_add, div_bot]

/-- Whether an expert is one of the kernel's two, as a real. -/
def hitK (p : Row) (e : Fin 8) : ℝ := if e = e1 p ∨ e = e2 p then 1 else 0

/-- The kernel's loss. -/
theorem rLoss_at (X : Vec Ideal S4096x1024 .f32) (W : Vec Ideal S1024x8 .f32) :
    rLoss X W (ix2 0 0) = Ideal.ofBits .f32 832821002#32 * ∑ e, (∑ t, prob X W t e) * ∑ t, (hitK (prob X W t) e : EReal) := by
  have h2 := pay2_at X W
  have h4 := fun t => pay4_at X W t 0
  have h7 := fun t => pay7_at X W t 0
  unfold rLoss
  generalize k0_pay2 X W = p at h2
  generalize k0_pay4 X W = q at h4
  generalize k0_pay7 X W = r at h7
  pointwise [k0_pay1]
  simp only [h2, h4, h7]
  refine congrArg _ (Finset.sum_congr rfl fun e _ => congrArg _ (Finset.sum_congr rfl fun t _ => ?_))
  unfold hitK
  generalize e1 (prob X W t) = a
  generalize e2 (prob X W t) = b
  show (((BitVec.setWidth 32 (IntOp.ori (IntOp.cmpi .eq (BitVec.ofNat 32 e.val) (BitVec.ofNat 32 a.val))
    (IntOp.cmpi .eq (BitVec.ofNat 32 e.val) (BitVec.ofNat 32 b.val)))).toInt : ℝ) : EReal) = _
  have hw : ∀ e a b : Fin 8, (BitVec.setWidth 32 (IntOp.ori (IntOp.cmpi .eq (BitVec.ofNat 32 e.val) (BitVec.ofNat 32 a.val))
    (IntOp.cmpi .eq (BitVec.ofNat 32 e.val) (BitVec.ofNat 32 b.val)))).toInt = if e = a ∨ e = b then 1 else 0 := by decide +kernel
  rw [hw]
  split <;> simp

/-! ### The reference's router -/

variable (x0 : Vec Ideal S2x2048x1024 .f32) (W : Vec Ideal S1024x8 .f32)

/-- The tokens as rows. -/
def rows : Vec Ideal S4096x1024 .f32 := val_main_v0 (F := Ideal) x0

/-- The reference's probabilities. -/
theorem v12_at (t : Fin 4096) (e : Fin 8) : val_main_v12 (F := Ideal) x0 W (ix2 t e) = prob (rows x0) W t e := by
  unfold rows val_main_v12 val_main_v11 val_main_v10 val_main_v9 val_main_v8 val_main_v7 val_main_v6 val_main_v5 val_main_v4 val_main_v3 val_main_v2 val_main_v1 val_main_cst_1 val_main_cst_0 val_main_cst
  generalize val_main_v0 x0 = X
  pointwise []
  simp only [ofBits_negInf, bot_le, max_eq_right]
  rfl

/-- A row of a matrix, read along its second axis. -/
theorem along_ix2 {n m : ℕ} (t : Fin n) (k j : Fin m) : Shape.Idx.along (s := ⟨2, ![n, m]⟩) (ix2 t k) 1 j = ix2 t j := by
  funext a; match a with
  | ⟨0, _⟩ => rfl
  | ⟨1, _⟩ => rfl

/-- The top-k's values and experts, at each place, are the stable descending sort's. -/
theorem topK_at (x : FVec Ideal S4096x8 .f32) (h) (t : Fin 4096) (k : Fin 2) (k' : Fin 8) (hk : k'.val = k.val) :
    (Host.topK S4096x2 1 (FloatOps.cmpfTotal .gt) x h).1 (ix2 t k) = x (ix2 t (sortedFrom (gtB fun e => x (ix2 t e)) k'))
    ∧ (Host.topK S4096x2 1 (FloatOps.cmpfTotal .gt) x h).2 (ix2 t k) = BitVec.ofNat 32 (sortedFrom (gtB fun e => x (ix2 t e)) k').val := by
  have hb : (fun a b : Fin 8 => (FloatOps.cmpfTotal (F := Ideal) (φ := .f32) .gt (x (ix2 t a)) (x (ix2 t b)) == 1#1)) = gtB fun e => x (ix2 t e) := by
    funext a b
    show (BitVec.ofBool (decide (x (ix2 t b) < x (ix2 t a))) == 1#1) = decide (x (ix2 t b) < x (ix2 t a))
    by_cases hc : x (ix2 t b) < x (ix2 t a) <;> simp [hc]
  have hs : ∀ (β : Type) (y : S4096x8.Idx → β), extractStridedSlice S4096x2 (fun _ => 0) y h (ix2 t k) = y (ix2 t k') := fun β y =>
    extractStridedSlice_apply (fun _ => 0) y h (ix2 t k) (ix2 t k') fun a => by
      match a with
      | ⟨0, _⟩ => show t.val = 0 + t.val; omega
      | ⟨1, _⟩ => show k'.val = 0 + k.val; omega
  unfold Host.topK
  dsimp only
  rw [hs, hs]
  unfold Host.sort2
  rw [dif_pos (by decide : (1 : ℕ) < S4096x8.rank)]
  constructor
  · show x (Shape.Idx.along (s := S4096x8) (ix2 t k') 1 (sortedFrom (fun a b : Fin 8 => (FloatOps.cmpfTotal (F := Ideal) (φ := .f32) .gt
      (x (Shape.Idx.along (s := S4096x8) (ix2 t k') 1 a)) (x (Shape.Idx.along (s := S4096x8) (ix2 t k') 1 b)) == 1#1)) k')) = _
    simp only [along_ix2]
    rw [hb]
    exact congrArg x (along_ix2 t k' _)
  · show BitVec.ofNat 32 (Shape.Idx.along (s := S4096x8) (ix2 t k') 1 (sortedFrom (fun a b : Fin 8 => (FloatOps.cmpfTotal (F := Ideal) (φ := .f32) .gt
      (x (Shape.Idx.along (s := S4096x8) (ix2 t k') 1 a)) (x (Shape.Idx.along (s := S4096x8) (ix2 t k') 1 b)) == 1#1)) k') 1).val = _
    simp only [along_ix2]
    rw [hb]
    rfl

end Cert.Moe
-- ==== Proof.RegVal.lean ====
/- The buffers the run ends with, in the terms of the router, the layout and the grouped product. -/
module

public import proofs.«01_k».proof.Proof.XOut
public import proofs.«01_k».proof.Proof.RunI
public import proofs.«01_k».proof.Proof.RouterVal
public import Idealize.ShloMosaic.Lib.Pointwise

@[expose] public section

set_option maxRecDepth 16384

noncomputable section

namespace Cert.Moe

open Cert.KernelIdeal Cert.KernelIdeal.Gen Cert.KernelIdeal.Own
open Idealize.ShloMosaic Idealize.ShloMosaic.TcCoe Idealize.ShloMosaic.Tactic
open Idealize.ShloMosaic.StableHlo
open Idealize.ShloMosaic.Pipeline (Window Dat afterRegion)

section
variable (W : Dev nD → Valuation τ sig (Elt Ideal)) (c : Dev nD)

/-- The router's blocks are its arrays. -/
theorem rX_eq (t : Fin cfg0.N) : rX W c t = (W c main_v0 : FVec Ideal S4096x1024 .f32) := by
  funext i
  show (W c main_v0 : FVec Ideal S4096x1024 .f32) (((cfg0.win 0).blk t).view.emb i) = _
  exact congrArg _ (funext fun ax => Fin.ext (Window.rect_emb_val_of_index_zero (cfg0.win 0) t ax rfl i))
theorem rW_eq (t : Fin cfg0.N) : rW W c t = (W c main_arg1 : FVec Ideal S1024x8 .f32) := by
  funext i
  show (W c main_arg1 : FVec Ideal S1024x8 .f32) (((cfg0.win 1).blk t).view.emb i) = _
  exact congrArg _ (funext fun ax => Fin.ext (Window.rect_emb_val_of_index_zero (cfg0.win 1) t ax rfl i))

theorem reg0_idx : (afterRegion (dat0 W c) (W c) (Proc.devRef .tc main_v1_0) : IVec S4096x2 32) = rIdx (F := Ideal) (W c main_v0) (W c main_arg1) := by
  refine (Pipeline.afterRegion_arr (dat0 W c) (W c) (launch0 (F := Ideal)).win.arr_inj 2).trans ?_
  refine (dat0 W c).arrAt_eq_of_after_last 2 ⟨0, by decide⟩ (by decide +kernel) _ fun j => ?_
  rw [after0_2, rX_eq, rW_eq]; rfl
theorem reg0_val : (afterRegion (dat0 W c) (W c) (Proc.devRef .tc main_v1_1) : FVec Ideal S4096x2 .f32) = rVal (F := Ideal) (W c main_v0) (W c main_arg1) := by
  refine (Pipeline.afterRegion_arr (dat0 W c) (W c) (launch0 (F := Ideal)).win.arr_inj 3).trans ?_
  refine (dat0 W c).arrAt_eq_of_after_last 3 ⟨0, by decide⟩ (by decide +kernel) _ fun j => ?_
  rw [after0_3, rX_eq, rW_eq]; rfl
theorem reg0_loss : (afterRegion (dat0 W c) (W c) (Proc.devRef .tc main_v1_2) : FVec Ideal S1x1 .f32) = rLoss (F := Ideal) (W c main_v0) (W c main_arg1) := by
  refine (Pipeline.afterRegion_arr (dat0 W c) (W c) (launch0 (F := Ideal)).win.arr_inj 4).trans ?_
  refine (dat0 W c).arrAt_eq_of_after_last 4 ⟨0, by decide⟩ (by decide +kernel) _ fun j => ?_
  rw [after0_4, rX_eq, rW_eq]; rfl
end

/-! ### The last host operations -/

theorem h2_v98 (V : Valuation τ sig (Elt Ideal)) : after hostOps2 V main_v98 = (shapeCast S2x2048x1024 (addf (pick0 (V main_v77) (V main_v34)) (pick1 (V main_v77) (V main_v34))) shapeCasts_S4096x1024_S2x2048x1024 : FVec Ideal S2x2048x1024 .f32) := by
  after_reads_simp; try rfl
theorem h2_v99 (V : Valuation τ sig (Elt Ideal)) : after hostOps2 V main_v99 = (shapeCast S_ (V main_v1_2 : FVec Ideal S1x1 .f32) shapeCasts_S1x1_S_ : FVec Ideal S_ .f32) := by
  after_reads_simp; try rfl
theorem h0_v0 (V : Valuation τ sig (Elt Ideal)) : after hostOps0 V main_v0 = (shapeCast S4096x1024 (V main_arg0 : FVec Ideal S2x2048x1024 .f32) shapeCasts_S2x2048x1024_S4096x1024 : FVec Ideal S4096x1024 .f32) := by
  after_reads_simp; try rfl

/-! ### The run's buffers -/

variable (m : (ℓ : Loc nD τ sig) → Buf (Elt Ideal) ℓ) (c : Dev nD)

abbrev a0 : FVec Ideal S2x2048x1024 .f32 := m ((c.tc : Thread nD τ).loc main_arg0)
abbrev a1 : FVec Ideal S1024x8 .f32 := m ((c.tc : Thread nD τ).loc main_arg1)
abbrev a2 : FVec Ideal S8x1024x2688 .f32 := m ((c.tc : Thread nD τ).loc main_arg2)
abbrev a3 : FVec Ideal S8x1024x2688 .f32 := m ((c.tc : Thread nD τ).loc main_arg3)
abbrev a4 : FVec Ideal S8x2688x1024 .f32 := m ((c.tc : Thread nD τ).loc main_arg4)

theorem V1_x : (V1 m c main_v0 : FVec Ideal S4096x1024 .f32) = rows (a0 m c) := (h0_v0 _).trans rfl
theorem V1_w : (V1 m c main_arg1 : FVec Ideal S1024x8 .f32) = a1 m c := (V1_of m c main_arg1 (by decide)).trans rfl

theorem V2_idx : (V2 m (outs0 m) c main_v1_0 : IVec S4096x2 32) = rIdx (rows (a0 m c)) (a1 m c) := by
  rw [← V2_outs, V2_eq]; exact (reg0_idx (V1 m) c).trans (by rw [V1_x, V1_w])
theorem V2_val : (V2 m (outs0 m) c main_v1_1 : FVec Ideal S4096x2 .f32) = rVal (rows (a0 m c)) (a1 m c) := by
  rw [← V2_outs, V2_eq]; exact (reg0_val (V1 m) c).trans (by rw [V1_x, V1_w])
theorem V2_loss : (V2 m (outs0 m) c main_v1_2 : FVec Ideal S1x1 .f32) = rLoss (rows (a0 m c)) (a1 m c) := by
  rw [← V2_outs, V2_eq]; exact (reg0_loss (V1 m) c).trans (by rw [V1_x, V1_w])
theorem V2_x : (V2 m (outs0 m) c main_v0 : FVec Ideal S4096x1024 .f32) = rows (a0 m c) := (V2_of m (outs0 m) c main_v0 (by decide)).trans (V1_x m c)
theorem V2_a2 : (V2 m (outs0 m) c main_arg2 : FVec Ideal S8x1024x2688 .f32) = a2 m c := (V2_of m (outs0 m) c main_arg2 (by decide)).trans ((V1_of m c main_arg2 (by decide)).trans rfl)
theorem V2_a3 : (V2 m (outs0 m) c main_arg3 : FVec Ideal S8x1024x2688 .f32) = a3 m c := (V2_of m (outs0 m) c main_arg3 (by decide)).trans ((V1_of m c main_arg3 (by decide)).trans rfl)
theorem V2_a4 : (V2 m (outs0 m) c main_arg4 : FVec Ideal S8x2688x1024 .f32) = a4 m c := (V2_of m (outs0 m) c main_arg4 (by decide)).trans ((V1_of m c main_arg4 (by decide)).trans rfl)

/-- The assignments' experts and weights as the router chose them. -/
abbrev vE : IVec S8192 32 := asgE (V2 m (outs0 m) c)
abbrev vW : FVec Ideal S8192 .f32 := asgW (V2 m (outs0 m) c)

theorem in_eq : Vin m c = st15 (V2 m (outs0 m) c) := mid_eq _
theorem tab0 : ((tabs m).1 0 : IVec S40 32) = d72 (vE m c) := by
  rw [dev_eq c]; exact (congrFun (in_eq m c0) _).trans (a15_v72 _)
theorem tab1 : ((tabs m).1 1 : IVec S1 32) = d75 (vE m c) := by
  rw [dev_eq c]; exact (congrFun (in_eq m c0) _).trans (a15_v75 _)
theorem in_x : (Vin m c main_v59 : FVec Ideal S10240x1024 .f32) = rowsOf (F := Ideal) (rows (a0 m c)) (d44 (vE m c)) := by
  rw [← V2_x m c]; exact (congrFun (in_eq m c) _).trans (a15_v59 _)
theorem in_s : (Vin m c main_v76 : FVec Ideal S10240x1 .f32) = shapeCast S10240x1 (d52 (vE m c) (vW m c)) shapeCasts_S10240_S10240x1 :=
  (congrFun (in_eq m c) _).trans (a15_v76 _)
theorem in_pos : (Vin m c main_v34 : IVec S8192 32) = d34 (vE m c) := (congrFun (in_eq m c) _).trans (a15_v34 _)
theorem in_loss : (Vin m c main_v1_2 : FVec Ideal S1x1 .f32) = rLoss (rows (a0 m c)) (a1 m c) := ((congrFun (in_eq m c) _).trans (a15_v1_2 _)).trans (V2_loss m c)
theorem in_a2 : aG (Vin m) c = a2 m c := ((congrFun (in_eq m c) _).trans (a15_arg2 _)).trans (V2_a2 m c)
theorem in_a3 : aU (Vin m) c = a3 m c := ((congrFun (in_eq m c) _).trans (a15_arg3 _)).trans (V2_a3 m c)
theorem in_a4 : aD (Vin m) c = a4 m c := ((congrFun (in_eq m c) _).trans (a15_arg4 _)).trans (V2_a4 m c)

/-- The grouped product's array after its region. -/
abbrev xout : FVec Ideal S10240x1024 .f32 := (dat1 (tabs m) (Vin m) c).arrAt 5 (cfg1 (tabs m)).N

theorem V18_x : (V18 m (outs m) c main_v77 : FVec Ideal S10240x1024 .f32) = xout m c := by
  rw [V18_eq]
  exact Pipeline.afterRegion_arr (dat1 (tabs m) (Vin m) c) (Vin m c) (launch1 (F := Ideal)).win.arr_inj 5
theorem V18_pos : (V18 m (outs m) c main_v34 : IVec S8192 32) = d34 (vE m c) :=
  (V18_of m (outs m) c main_v34 (by decide)).trans ((congrFun (V17_outs m c) _).trans (in_pos m c))
theorem V18_loss : (V18 m (outs m) c main_v1_2 : FVec Ideal S1x1 .f32) = rLoss (rows (a0 m c)) (a1 m c) :=
  (V18_of m (outs m) c main_v1_2 (by decide)).trans ((congrFun (V17_outs m c) _).trans (in_loss m c))

/-- The first result's buffer at the end of the run. -/
theorem end_v98 : (V19 m (outs m) c main_v98 : FVec Ideal S2x2048x1024 .f32)
    = shapeCast S2x2048x1024 (addf (pick0 (xout m c) (d34 (vE m c))) (pick1 (xout m c) (d34 (vE m c)))) shapeCasts_S4096x1024_S2x2048x1024 := by
  rw [← V18_x, ← V18_pos]; exact h2_v98 _
/-- The second result's. -/
theorem end_v99 : (V19 m (outs m) c main_v99 : FVec Ideal S_ .f32) = shapeCast S_ (rLoss (rows (a0 m c)) (a1 m c)) shapeCasts_S1x1_S_ := by
  rw [← V18_loss]; exact h2_v99 _

end Cert.Moe

end
-- ==== Proof.RouterRef.lean ====
/- The reference's chosen experts, weights and per-expert weight table, in the terms of each token's probabilities. -/
module

public import proofs.«01_k».proof.Proof.RouterVal
public import Idealize.ShloMosaic.Lib.Routing.OpsPair

@[expose] public section

noncomputable section

namespace Cert.Moe

open Cert.ReferenceIdeal Cert.ReferenceIdeal.Gen Cert.ReferenceIdeal.Read
open Idealize.ShloMosaic

variable (x0 : Vec Ideal S2x2048x1024 .f32) (W : Vec Ideal S1024x8 .f32)

/-- The reference's experts are the sort's first two places. -/
theorem indices_at0 (t : Fin 4096) : val_main_indices (F := Ideal) x0 W (ix2 t 0) = BitVec.ofNat 32 (k1 (prob (rows x0) W t)).val := by
  have h := (topK_at (val_main_v12 (F := Ideal) x0 W) sliceFits_S4096x8_S4096x2 t 0 0 rfl).2
  simp only [v12_at] at h
  exact h
theorem indices_at1 (t : Fin 4096) : val_main_indices (F := Ideal) x0 W (ix2 t 1) = BitVec.ofNat 32 (k2 (prob (rows x0) W t)).val := by
  have h := (topK_at (val_main_v12 (F := Ideal) x0 W) sliceFits_S4096x8_S4096x2 t 1 1 rfl).2
  simp only [v12_at] at h
  exact h

/-- The reference's values are those experts' probabilities. -/
theorem values_at0 (t : Fin 4096) : val_main_values (F := Ideal) x0 W (ix2 t 0) = prob (rows x0) W t (k1 (prob (rows x0) W t)) := by
  have h := (topK_at (val_main_v12 (F := Ideal) x0 W) sliceFits_S4096x8_S4096x2 t 0 0 rfl).1
  simp only [v12_at] at h
  exact h
theorem values_at1 (t : Fin 4096) : val_main_values (F := Ideal) x0 W (ix2 t 1) = prob (rows x0) W t (k2 (prob (rows x0) W t)) := by
  have h := (topK_at (val_main_v12 (F := Ideal) x0 W) sliceFits_S4096x8_S4096x2 t 1 1 rfl).1
  simp only [v12_at] at h
  exact h

/-- The reference's normalised value at either place. -/
theorem v18_at (t : Fin 4096) (k : Fin 2) : val_main_v18 (F := Ideal) x0 W (ix2 t k)
    = Ideal.div (val_main_values (F := Ideal) x0 W (ix2 t k))
      (val_main_values (F := Ideal) x0 W (ix2 t 0) + val_main_values (F := Ideal) x0 W (ix2 t 1) + eps) := by
  unfold val_main_v18 val_main_v17 val_main_v16 val_main_v15 val_main_v14 val_main_v13
  generalize val_main_values (F := Ideal) x0 W = X
  unfold val_main_cst_2 val_main_cst_3
  pointwise []
  rw [Fin.sum_univ_two]
  rfl

/-- The reference's weights are the kernel's. -/
theorem v18_at0 (t : Fin 4096) : val_main_v18 (F := Ideal) x0 W (ix2 t 0) = w1 (prob (rows x0) W t) := by
  rw [v18_at, values_at0, values_at1]
  unfold w1
  by_cases hg : Good (prob (rows x0) W t)
  · rw [if_pos hg]
  · have hb := (prob_cases (rows x0) W t).resolve_left hg
    rw [if_neg hg, hb (k1 _), EReal.bot_add, EReal.bot_add, div_bot]
theorem v18_at1 (t : Fin 4096) : val_main_v18 (F := Ideal) x0 W (ix2 t 1) = w2 (prob (rows x0) W t) := by
  rw [v18_at, values_at0, values_at1]
  unfold w2
  by_cases hg : Good (prob (rows x0) W t)
  · rw [if_pos hg]
  · have hb := (prob_cases (rows x0) W t).resolve_left hg
    rw [if_neg hg, hb (k1 _), EReal.bot_add, EReal.bot_add, div_bot]

/-- The row word of the table's index pairs. -/
theorem v46_row (t : Fin 4096) (k : Fin 2) : val_main_v46 (F := Ideal) x0 W (ix3 t k 0) = BitVec.ofNat 32 t.val := by
  unfold val_main_v46 val_main_v44 val_main_v43 val_main_v37 val_main_v36 val_main_v35 val_main_v34 val_main_v33 val_main_v32 val_main_v31 val_main_c val_main_c_12
  generalize val_main_v45 (F := Ideal) x0 W = X
  pointwise []
  rw [Routing.wrap_of_lt]
  rw [BitVec.toNat_ofNat, Nat.mod_eq_of_lt (by have := t.isLt; omega)]
  have := t.isLt; omega

/-- The expert word of the table's index pairs. -/
theorem v46_col (t : Fin 4096) (k : Fin 2) (h : (val_main_indices (F := Ideal) x0 W (ix2 t k)).toNat < 8) :
    val_main_v46 (F := Ideal) x0 W (ix3 t k 1) = val_main_indices (F := Ideal) x0 W (ix2 t k) := by
  unfold val_main_v46 val_main_v45 val_main_v42 val_main_v41 val_main_v40 val_main_v39 val_main_v38 val_main_c_13 val_main_c_14
  generalize val_main_v44 (F := Ideal) = X
  generalize val_main_indices (F := Ideal) x0 W = Y at h
  pointwise []
  rw [Routing.wrap_of_lt]
  omega

/-- An expert's word, as a number. -/
theorem toNat_expert (e : Fin 8) : (BitVec.ofNat 32 e.val).toNat = e.val := by revert e; decide
theorem toInt_expert (e : Fin 8) : (BitVec.ofNat 32 e.val).toInt = e.val := by revert e; decide
/-- A token's word, as a number. -/
theorem toInt_token (t : Fin 4096) : (BitVec.ofNat 32 t.val).toInt = t.val := by
  exact StableHlo.Predicate.toInt_ofNat_small _ (by have := t.isLt; omega)

/-- The weight of each expert for each token: the two chosen experts', each counted once. -/
theorem v47_at (t : Fin 4096) (e : Fin 8) : val_main_v47 (F := Ideal) x0 W (ix2 t e)
    = (if e = k1 (prob (rows x0) W t) then w1 (prob (rows x0) W t) else 0) + (if e = k2 (prob (rows x0) W t) then w2 (prob (rows x0) W t) else 0) := by
  have hz : val_main_v30 (F := Ideal) (ix2 t e) = 0 := by
    unfold val_main_v30 val_main_cst_11
    pointwise []
  have hb0 : ∀ s : Fin 4096, (val_main_v46 (F := Ideal) x0 W (ix3 s 0 1)).toInt = ((k1 (prob (rows x0) W s)).val : ℤ) := fun s => by
    rw [v46_col _ _ _ _ (by rw [indices_at0, toNat_expert]; exact (k1 _).isLt), indices_at0, toInt_expert]
  have hb1 : ∀ s : Fin 4096, (val_main_v46 (F := Ideal) x0 W (ix3 s 1 1)).toInt = ((k2 (prob (rows x0) W s)).val : ℤ) := fun s => by
    rw [v46_col _ _ _ _ (by rw [indices_at1, toNat_expert]; exact (k2 _).isLt), indices_at1, toInt_expert]
  have hl : ∀ (a : Fin 4096) (b : Fin 2) (k : Fin 4096 → Fin 8), (∀ s : Fin 4096, (val_main_v46 (F := Ideal) x0 W (ix3 s b 1)).toInt = ((k s).val : ℤ)) →
      ((scatter_S4096x8_S4096x2x2_S4096x2_n_01_01_2.resultIdx? (ix2 a b) (val_main_v46 (F := Ideal) x0 W) = some (ix2 t e)) ↔ (a = t ∧ e = k t)) := by
    intro a b k hb
    have h := Routing.scatter_lands2 (R := 4096) (C := 8) (A := 4096) (B := 2) scatter_S4096x8_S4096x2x2_S4096x2_n_01_01_2 rfl rfl rfl
      (val_main_v46 (F := Ideal) x0 W) a b t e
    rw [← ix2_eq_valueIdx, ← ix2_eq_valueIdx, ← ix3_eq_valueIdx, ← ix3_eq_valueIdx] at h
    refine h.trans ?_
    rw [v46_row, toInt_token, hb]
    constructor
    · rintro ⟨h1, h2⟩
      have h3 : a = t := Fin.ext (by exact_mod_cast h1)
      subst h3
      exact ⟨rfl, Fin.ext (by exact_mod_cast h2.symm)⟩
    · rintro ⟨rfl, h2⟩
      exact ⟨rfl, by rw [h2]⟩
  show val_main_v30 (F := Ideal) (ix2 t e) + ∑ j ∈ Finset.univ.filter (fun j => scatter_S4096x8_S4096x2x2_S4096x2_n_01_01_2.resultIdx? j (val_main_v46 (F := Ideal) x0 W) = some (ix2 t e)),
    val_main_v18 (F := Ideal) x0 W j = _
  rw [hz, zero_add, Finset.sum_filter, sum_idx2]
  simp only [Fin.sum_univ_two]
  simp only [hl _ 0 _ hb0, hl _ 1 _ hb1]
  rw [Finset.sum_eq_single t (fun a _ ha => by rw [if_neg fun h => ha h.1, if_neg fun h => ha h.1, add_zero]) (fun h => absurd (Finset.mem_univ t) h)]
  rw [v18_at0, v18_at1]
  simp only [true_and]

end Cert.Moe
-- ==== Proof.RefOut.lean ====
/- The first result of the reference at an index: the sum over the experts of their networks times the weights. -/
module

public import proofs.«01_k».proof.Proof.GemmVal
public import proofs.«01_k».proof.Proof.RouterRef
public import Idealize.ShloMosaic.Lib.Pointwise

@[expose] public section

set_option maxRecDepth 16384

noncomputable section

namespace Cert.Moe

open Cert.ReferenceIdeal.Read
open Idealize.ShloMosaic

variable (x0 : FVec Ideal Cert.ReferenceIdeal.S2x2048x1024 .f32) (W : FVec Ideal Cert.ReferenceIdeal.S1024x8 .f32) (x2 x3 : FVec Ideal Cert.ReferenceIdeal.S8x1024x2688 .f32) (x4 : FVec Ideal Cert.ReferenceIdeal.S8x2688x1024 .f32)

/-- Nothing has been added yet. -/
theorem zero_at (t : Fin 4096) (h : Fin 1024) : val_main_v48 (F := Ideal) (ix2 t h) = (0 : EReal) := by
  unfold val_main_v48 val_main_cst_15
  pointwise []

/-! ### Each expert's network, and its part of the result -/

theorem e0_at (t : Fin 4096) (h : Fin 1024) :
    val_main_v59 (F := Ideal) x0 x2 x3 x4 (ix2 t h) = ffn (fun k => rows x0 (ix2 t k)) x2 x3 x4 0 h := by
  unfold rows val_main_v59 val_main_v58 val_main_v57 val_main_v56 val_main_v55 val_main_v54 val_main_v53 val_main_v52 val_main_call1_v5 val_main_call1_v4 val_main_call1_v3 val_main_call1_v2 val_main_call1_v1 val_main_call1_v0 val_main_call1_cst val_main_call1_cst_0 val_main_v51 val_main_v50 val_main_v49
  generalize val_main_v0 (F := Ideal) x0 = X
  pointwise []
  rfl
theorem t0_at (t : Fin 4096) (h : Fin 1024) :
    val_main_v63 (F := Ideal) x0 W x2 x3 x4 (ix2 t h) = val_main_v48 (F := Ideal) (ix2 t h) + ffn (fun k => rows x0 (ix2 t k)) x2 x3 x4 0 h * val_main_v47 (F := Ideal) x0 W (ix2 t 0) := by
  rw [← e0_at]
  unfold val_main_v63 val_main_v62 val_main_v61 val_main_v60
  generalize val_main_v59 (F := Ideal) x0 x2 x3 x4 = A
  generalize val_main_v47 (F := Ideal) x0 W = B
  generalize val_main_v48 (F := Ideal)  = C
  pointwise []

theorem e1_at (t : Fin 4096) (h : Fin 1024) :
    val_main_v74 (F := Ideal) x0 x2 x3 x4 (ix2 t h) = ffn (fun k => rows x0 (ix2 t k)) x2 x3 x4 1 h := by
  unfold rows val_main_v74 val_main_v73 val_main_v72 val_main_v71 val_main_v70 val_main_v69 val_main_v68 val_main_v67 val_main_call2_v5 val_main_call2_v4 val_main_call2_v3 val_main_call2_v2 val_main_call2_v1 val_main_call2_v0 val_main_call2_cst val_main_call2_cst_0 val_main_v66 val_main_v65 val_main_v64
  generalize val_main_v0 (F := Ideal) x0 = X
  pointwise []
  rfl
theorem t1_at (t : Fin 4096) (h : Fin 1024) :
    val_main_v78 (F := Ideal) x0 W x2 x3 x4 (ix2 t h) = val_main_v63 (F := Ideal) x0 W x2 x3 x4 (ix2 t h) + ffn (fun k => rows x0 (ix2 t k)) x2 x3 x4 1 h * val_main_v47 (F := Ideal) x0 W (ix2 t 1) := by
  rw [← e1_at]
  unfold val_main_v78 val_main_v77 val_main_v76 val_main_v75
  generalize val_main_v74 (F := Ideal) x0 x2 x3 x4 = A
  generalize val_main_v47 (F := Ideal) x0 W = B
  generalize val_main_v63 (F := Ideal) x0 W x2 x3 x4 = C
  pointwise []

theorem e2_at (t : Fin 4096) (h : Fin 1024) :
    val_main_v89 (F := Ideal) x0 x2 x3 x4 (ix2 t h) = ffn (fun k => rows x0 (ix2 t k)) x2 x3 x4 2 h := by
  unfold rows val_main_v89 val_main_v88 val_main_v87 val_main_v86 val_main_v85 val_main_v84 val_main_v83 val_main_v82 val_main_call3_v5 val_main_call3_v4 val_main_call3_v3 val_main_call3_v2 val_main_call3_v1 val_main_call3_v0 val_main_call3_cst val_main_call3_cst_0 val_main_v81 val_main_v80 val_main_v79
  generalize val_main_v0 (F := Ideal) x0 = X
  pointwise []
  rfl
theorem t2_at (t : Fin 4096) (h : Fin 1024) :
    val_main_v93 (F := Ideal) x0 W x2 x3 x4 (ix2 t h) = val_main_v78 (F := Ideal) x0 W x2 x3 x4 (ix2 t h) + ffn (fun k => rows x0 (ix2 t k)) x2 x3 x4 2 h * val_main_v47 (F := Ideal) x0 W (ix2 t 2) := by
  rw [← e2_at]
  unfold val_main_v93 val_main_v92 val_main_v91 val_main_v90
  generalize val_main_v89 (F := Ideal) x0 x2 x3 x4 = A
  generalize val_main_v47 (F := Ideal) x0 W = B
  generalize val_main_v78 (F := Ideal) x0 W x2 x3 x4 = C
  pointwise []

theorem e3_at (t : Fin 4096) (h : Fin 1024) :
    val_main_v104 (F := Ideal) x0 x2 x3 x4 (ix2 t h) = ffn (fun k => rows x0 (ix2 t k)) x2 x3 x4 3 h := by
  unfold rows val_main_v104 val_main_v103 val_main_v102 val_main_v101 val_main_v100 val_main_v99 val_main_v98 val_main_v97 val_main_call4_v5 val_main_call4_v4 val_main_call4_v3 val_main_call4_v2 val_main_call4_v1 val_main_call4_v0 val_main_call4_cst val_main_call4_cst_0 val_main_v96 val_main_v95 val_main_v94
  generalize val_main_v0 (F := Ideal) x0 = X
  pointwise []
  rfl
theorem t3_at (t : Fin 4096) (h : Fin 1024) :
    val_main_v108 (F := Ideal) x0 W x2 x3 x4 (ix2 t h) = val_main_v93 (F := Ideal) x0 W x2 x3 x4 (ix2 t h) + ffn (fun k => rows x0 (ix2 t k)) x2 x3 x4 3 h * val_main_v47 (F := Ideal) x0 W (ix2 t 3) := by
  rw [← e3_at]
  unfold val_main_v108 val_main_v107 val_main_v106 val_main_v105
  generalize val_main_v104 (F := Ideal) x0 x2 x3 x4 = A
  generalize val_main_v47 (F := Ideal) x0 W = B
  generalize val_main_v93 (F := Ideal) x0 W x2 x3 x4 = C
  pointwise []

theorem e4_at (t : Fin 4096) (h : Fin 1024) :
    val_main_v119 (F := Ideal) x0 x2 x3 x4 (ix2 t h) = ffn (fun k => rows x0 (ix2 t k)) x2 x3 x4 4 h := by
  unfold rows val_main_v119 val_main_v118 val_main_v117 val_main_v116 val_main_v115 val_main_v114 val_main_v113 val_main_v112 val_main_call5_v5 val_main_call5_v4 val_main_call5_v3 val_main_call5_v2 val_main_call5_v1 val_main_call5_v0 val_main_call5_cst val_main_call5_cst_0 val_main_v111 val_main_v110 val_main_v109
  generalize val_main_v0 (F := Ideal) x0 = X
  pointwise []
  rfl
theorem t4_at (t : Fin 4096) (h : Fin 1024) :
    val_main_v123 (F := Ideal) x0 W x2 x3 x4 (ix2 t h) = val_main_v108 (F := Ideal) x0 W x2 x3 x4 (ix2 t h) + ffn (fun k => rows x0 (ix2 t k)) x2 x3 x4 4 h * val_main_v47 (F := Ideal) x0 W (ix2 t 4) := by
  rw [← e4_at]
  unfold val_main_v123 val_main_v122 val_main_v121 val_main_v120
  generalize val_main_v119 (F := Ideal) x0 x2 x3 x4 = A
  generalize val_main_v47 (F := Ideal) x0 W = B
  generalize val_main_v108 (F := Ideal) x0 W x2 x3 x4 = C
  pointwise []

theorem e5_at (t : Fin 4096) (h : Fin 1024) :
    val_main_v134 (F := Ideal) x0 x2 x3 x4 (ix2 t h) = ffn (fun k => rows x0 (ix2 t k)) x2 x3 x4 5 h := by
  unfold rows val_main_v134 val_main_v133 val_main_v132 val_main_v131 val_main_v130 val_main_v129 val_main_v128 val_main_v127 val_main_call6_v5 val_main_call6_v4 val_main_call6_v3 val_main_call6_v2 val_main_call6_v1 val_main_call6_v0 val_main_call6_cst val_main_call6_cst_0 val_main_v126 val_main_v125 val_main_v124
  generalize val_main_v0 (F := Ideal) x0 = X
  pointwise []
  rfl
theorem t5_at (t : Fin 4096) (h : Fin 1024) :
    val_main_v138 (F := Ideal) x0 W x2 x3 x4 (ix2 t h) = val_main_v123 (F := Ideal) x0 W x2 x3 x4 (ix2 t h) + ffn (fun k => rows x0 (ix2 t k)) x2 x3 x4 5 h * val_main_v47 (F := Ideal) x0 W (ix2 t 5) := by
  rw [← e5_at]
  unfold val_main_v138 val_main_v137 val_main_v136 val_main_v135
  generalize val_main_v134 (F := Ideal) x0 x2 x3 x4 = A
  generalize val_main_v47 (F := Ideal) x0 W = B
  generalize val_main_v123 (F := Ideal) x0 W x2 x3 x4 = C
  pointwise []

theorem e6_at (t : Fin 4096) (h : Fin 1024) :
    val_main_v149 (F := Ideal) x0 x2 x3 x4 (ix2 t h) = ffn (fun k => rows x0 (ix2 t k)) x2 x3 x4 6 h := by
  unfold rows val_main_v149 val_main_v148 val_main_v147 val_main_v146 val_main_v145 val_main_v144 val_main_v143 val_main_v142 val_main_call7_v5 val_main_call7_v4 val_main_call7_v3 val_main_call7_v2 val_main_call7_v1 val_main_call7_v0 val_main_call7_cst val_main_call7_cst_0 val_main_v141 val_main_v140 val_main_v139
  generalize val_main_v0 (F := Ideal) x0 = X
  pointwise []
  rfl
theorem t6_at (t : Fin 4096) (h : Fin 1024) :
    val_main_v153 (F := Ideal) x0 W x2 x3 x4 (ix2 t h) = val_main_v138 (F := Ideal) x0 W x2 x3 x4 (ix2 t h) + ffn (fun k => rows x0 (ix2 t k)) x2 x3 x4 6 h * val_main_v47 (F := Ideal) x0 W (ix2 t 6) := by
  rw [← e6_at]
  unfold val_main_v153 val_main_v152 val_main_v151 val_main_v150
  generalize val_main_v149 (F := Ideal) x0 x2 x3 x4 = A
  generalize val_main_v47 (F := Ideal) x0 W = B
  generalize val_main_v138 (F := Ideal) x0 W x2 x3 x4 = C
  pointwise []

theorem e7_at (t : Fin 4096) (h : Fin 1024) :
    val_main_v164 (F := Ideal) x0 x2 x3 x4 (ix2 t h) = ffn (fun k => rows x0 (ix2 t k)) x2 x3 x4 7 h := by
  unfold rows val_main_v164 val_main_v163 val_main_v162 val_main_v161 val_main_v160 val_main_v159 val_main_v158 val_main_v157 val_main_call8_v5 val_main_call8_v4 val_main_call8_v3 val_main_call8_v2 val_main_call8_v1 val_main_call8_v0 val_main_call8_cst val_main_call8_cst_0 val_main_v156 val_main_v155 val_main_v154
  generalize val_main_v0 (F := Ideal) x0 = X
  pointwise []
  rfl
theorem t7_at (t : Fin 4096) (h : Fin 1024) :
    val_main_v168 (F := Ideal) x0 W x2 x3 x4 (ix2 t h) = val_main_v153 (F := Ideal) x0 W x2 x3 x4 (ix2 t h) + ffn (fun k => rows x0 (ix2 t k)) x2 x3 x4 7 h * val_main_v47 (F := Ideal) x0 W (ix2 t 7) := by
  rw [← e7_at]
  unfold val_main_v168 val_main_v167 val_main_v166 val_main_v165
  generalize val_main_v164 (F := Ideal) x0 x2 x3 x4 = A
  generalize val_main_v47 (F := Ideal) x0 W = B
  generalize val_main_v153 (F := Ideal) x0 W x2 x3 x4 = C
  pointwise []

/-- The first result before its last reshape. -/
theorem v168_at (t : Fin 4096) (h : Fin 1024) :
    val_main_v168 (F := Ideal) x0 W x2 x3 x4 (ix2 t h)
      = ∑ e : Fin 8, ffn (fun k => rows x0 (ix2 t k)) x2 x3 x4 e h * val_main_v47 (F := Ideal) x0 W (ix2 t e) := by
  rw [t7_at, t6_at, t5_at, t4_at, t3_at, t2_at, t1_at, t0_at, zero_at, zero_add, Fin.sum_univ_eight]

/-- Two different experts' terms are all of the sum. -/
theorem two_of_sum (f : Fin 8 → EReal) (i j : Fin 8) (a b : EReal) (hij : i ≠ j) :
    ∑ e : Fin 8, f e * ((if e = i then a else 0) + (if e = j then b else 0)) = f i * a + f j * b := by
  have h : ∀ e, f e * ((if e = i then a else 0) + (if e = j then b else 0)) = (if e = i then f i * a else 0) + (if e = j then f j * b else 0) := fun e => by
    by_cases h1 : e = i
    · subst h1; rw [if_pos rfl, if_pos rfl, if_neg hij, if_neg hij, add_zero, add_zero]
    · rw [if_neg h1, if_neg h1, zero_add, zero_add]
      by_cases h2 : e = j
      · subst h2; rw [if_pos rfl, if_pos rfl]
      · rw [if_neg h2, if_neg h2, mul_zero]
  rw [Finset.sum_congr rfl fun e _ => h e, Finset.sum_add_distrib, Finset.sum_ite_eq' , Finset.sum_ite_eq', if_pos (Finset.mem_univ _), if_pos (Finset.mem_univ _)]

/-- The sum over the experts is the two chosen ones' networks times their weights. -/
theorem v168_two (t : Fin 4096) (h : Fin 1024) :
    val_main_v168 (F := Ideal) x0 W x2 x3 x4 (ix2 t h)
      = ffn (fun k => rows x0 (ix2 t k)) x2 x3 x4 (e1 (prob (rows x0) W t)) h * w1 (prob (rows x0) W t)
        + ffn (fun k => rows x0 (ix2 t k)) x2 x3 x4 (e2 (prob (rows x0) W t)) h * w2 (prob (rows x0) W t) := by
  rw [v168_at]
  simp only [v47_at]
  have hc := prob_cases (rows x0) W t
  generalize prob (rows x0) W t = p at hc ⊢
  generalize (fun k => rows x0 (ix2 t k)) = x
  rw [two_of_sum (fun e => ffn x x2 x3 x4 e h) (k1 p) (k2 p) (w1 p) (w2 p) (k2_ne p).symm]
  unfold e1 e2
  by_cases hg : Good p
  · rw [if_pos hg, if_pos hg]
  · unfold w1 w2
    rw [if_neg hg, if_neg hg, if_neg hg, if_neg hg]
    simp only [mul_zero]

end Cert.Moe

end
-- ==== Proof.Loss.lean ====
/- The balance loss: the kernel's one constant times the sum over experts of (total probability) times (number of tokens sent)
   is the reference's product of means, scaled by the number of experts and the loss's weight. -/
module

public import proofs.«01_k».proof.Proof.RouterRef

@[expose] public section

noncomputable section

namespace Cert.Moe

open Cert.ReferenceIdeal Cert.ReferenceIdeal.Gen Cert.ReferenceIdeal.Read
open Idealize.ShloMosaic

/-- How often an expert is among the reference's two, as a real. -/
def hitR (p : Row) (e : Fin 8) : ℝ := (if e = k1 p then 1 else 0) + (if e = k2 p then 1 else 0)

/-- The kernel's loss from the tokens' probabilities. -/
def lossK (P : Fin 4096 → Row) : EReal := Ideal.ofBits .f32 832821002#32 * ∑ e, (∑ t, P t e) * ∑ t, (hitK (P t) e : EReal)

/-- The reference's loss from the tokens' probabilities. -/
def lossR (P : Fin 4096 → Row) : EReal :=
  Ideal.ofBits .f32 1090519040#32 * (∑ e, Ideal.div (∑ t, P t e) (Ideal.ofBits .f32 1166016512#32)
    * Ideal.div (∑ t, (hitR (P t) e : EReal)) (Ideal.ofBits .f32 1166016512#32)) * Ideal.ofBits .f32 1008981770#32

/-- The reference's weight of the loss, a power of two below the kernel's constant's. -/
def aux : ℝ := 10737418 / 1073741824

theorem ofBits_eight : Ideal.ofBits .f32 1090519040#32 = ((8 : ℝ) : EReal) := by
  simp [Ideal.ofBits, Ideal.ieee]; rw [← EReal.coe_mul]; norm_num
theorem ofBits_4096 : Ideal.ofBits .f32 1166016512#32 = ((4096 : ℝ) : EReal) := by
  simp [Ideal.ofBits, Ideal.ieee]; rw [← EReal.coe_mul]; norm_num
theorem ofBits_aux : Ideal.ofBits .f32 1008981770#32 = (aux : EReal) := by
  unfold aux; simp [Ideal.ofBits, Ideal.ieee]; rw [← EReal.coe_mul]; norm_num
theorem ofBits_cst : Ideal.ofBits .f32 832821002#32 = ((aux / 2097152 : ℝ) : EReal) := by
  unfold aux; simp [Ideal.ofBits, Ideal.ieee]; rw [← EReal.coe_mul]; norm_num

theorem aux_pos : 0 < aux := by unfold aux; norm_num

/-- A real over a nonzero real. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- Minus infinity over a positive real. -/
theorem bot_div (b : ℝ) (hb : 0 < b) : Ideal.div ⊥ (b : EReal) = ⊥ := by
  unfold Ideal.div
  rw [if_neg (by exact_mod_cast hb.ne'), ← EReal.coe_inv, EReal.bot_mul_coe_of_pos (inv_pos.mpr hb)]

/-- A sum with minus infinity among its terms. -/
theorem sum_bot {ι : Type} [DecidableEq ι] (s : Finset ι) (f : ι → EReal) (i : ι) (hi : i ∈ s) (h : f i = ⊥) : ∑ j ∈ s, f j = ⊥ := by
  rw [← Finset.add_sum_erase s f hi, h, EReal.bot_add]

theorem hitK_nonneg (p : Row) (e : Fin 8) : 0 ≤ hitK p e := by unfold hitK; split <;> norm_num
theorem hitR_nonneg (p : Row) (e : Fin 8) : 0 ≤ hitR p e := by unfold hitR; split <;> split <;> norm_num
theorem hitK_e1 (p : Row) : hitK p (e1 p) = 1 := by unfold hitK; rw [if_pos (Or.inl rfl)]
theorem hitR_k1 (p : Row) : 0 < hitR p (k1 p) := by
  unfold hitR; rw [if_pos rfl]; split <;> norm_num

/-- On nonnegative reals the two programs count alike. -/
theorem hit_good (p : Row) (hg : Good p) (e : Fin 8) : hitK p e = hitR p e := by
  unfold hitK hitR
  rw [show e1 p = k1 p from if_pos hg, show e2 p = k2 p from if_pos hg]
  have hne := k2_ne p
  by_cases h1 : e = k1 p
  · have h2 : ¬ e = k2 p := fun h => hne (h ▸ h1)
    rw [if_pos (Or.inl h1), if_pos h1, if_neg h2, add_zero]
  · by_cases h2 : e = k2 p
    · rw [if_pos (Or.inr h2), if_neg h1, if_pos h2, zero_add]
    · rw [if_neg (not_or.mpr ⟨h1, h2⟩), if_neg h1, if_neg h2, add_zero]

/-- The two losses are equal. -/
theorem loss_eq (P : Fin 4096 → Row) (h : ∀ t, Good (P t) ∨ Bad (P t)) : lossK P = lossR P := by
  unfold lossK lossR
  rw [ofBits_eight, ofBits_4096, ofBits_aux, ofBits_cst]
  by_cases hb : ∃ t, Bad (P t)
  · obtain ⟨t0, ht0⟩ := hb
    have hP : ∀ e, ∑ t, P t e = ⊥ := fun e => sum_bot _ _ t0 (Finset.mem_univ _) (ht0 e)
    simp only [hP]
    rw [bot_div _ (by norm_num)]
    have hk : 0 < ∑ t, hitK (P t) (e1 (P t0)) :=
      lt_of_lt_of_le (by rw [hitK_e1]; exact one_pos) (Finset.single_le_sum (f := fun t => hitK (P t) (e1 (P t0))) (fun t _ => hitK_nonneg _ _) (Finset.mem_univ t0))
    have hr : 0 < ∑ t, hitR (P t) (k1 (P t0)) :=
      lt_of_lt_of_le (hitR_k1 _) (Finset.single_le_sum (f := fun t => hitR (P t) (k1 (P t0))) (fun t _ => hitR_nonneg _ _) (Finset.mem_univ t0))
    rw [sum_bot Finset.univ _ (e1 (P t0)) (Finset.mem_univ _) (by rw [← coe_sum]; exact EReal.bot_mul_coe_of_pos hk)]
    rw [sum_bot Finset.univ _ (k1 (P t0)) (Finset.mem_univ _) (by
      rw [← coe_sum, div_coe _ _ (by norm_num)]; exact EReal.bot_mul_coe_of_pos (div_pos hr (by norm_num)))]
    rw [EReal.coe_mul_bot_of_pos (div_pos aux_pos (by norm_num)), EReal.coe_mul_bot_of_pos (by norm_num), EReal.bot_mul_coe_of_pos aux_pos]
  · have hg : ∀ t, Good (P t) := fun t => (h t).resolve_right fun hc => hb ⟨t, hc⟩
    choose q hq0 hq using hg
    have hg : ∀ t, Good (P t) := fun t => (h t).resolve_right fun hc => hb ⟨t, hc⟩
    simp only [hq, hit_good _ (hg _), ← coe_sum]
    simp only [div_coe _ _ (show (4096 : ℝ) ≠ 0 by norm_num), ← EReal.coe_mul, ← coe_sum]
    congr 1
    rw [Finset.mul_sum, Finset.mul_sum, Finset.sum_mul]
    refine Finset.sum_congr rfl fun e _ => ?_
    ring

variable (x0 : Vec Ideal S2x2048x1024 .f32) (W : Vec Ideal S1024x8 .f32)

/-- The reference's total probability of an expert. -/
theorem v19_at (e : Fin 8) : val_main_v19 (F := Ideal) x0 W (ix1 e) = ∑ t, prob (rows x0) W t e := by
  have h := v12_at x0 W
  unfold val_main_v19 val_main_cst_4
  generalize val_main_v12 (F := Ideal) x0 W = p at h
  pointwise []
  simp only [h]

/-- The reference's count of an expert. -/
theorem v24_at (e : Fin 8) : val_main_v24 (F := Ideal) x0 W (ix1 e) = ∑ t, (hitR (prob (rows x0) W t) e : EReal) := by
  have h0 := indices_at0 x0 W
  have h1 := indices_at1 x0 W
  unfold val_main_v24 val_main_v23 val_main_v22 val_main_call0_v4 val_main_call0_v3 val_main_call0_v2 val_main_call0_v1 val_main_call0_v0 val_main_cst_6 val_main_cst_7
  generalize val_main_indices (F := Ideal) x0 W = p at h0 h1
  pointwise []
  refine Finset.sum_congr rfl fun t _ => ?_
  rw [Fin.sum_univ_two, h0, h1]
  unfold hitR
  generalize k1 (prob (rows x0) W t) = a
  generalize k2 (prob (rows x0) W t) = b
  have hw : ∀ e a : Fin 8, (IntOp.cmpi .eq (BitVec.ofNat 32 a.val) (BitVec.ofNat 32 e.val)).toNat = if e = a then 1 else 0 := by decide +kernel
  show ((((IntOp.cmpi .eq (BitVec.ofNat 32 a.val) (BitVec.ofNat 32 e.val)).toNat : ℝ) : EReal) + ((IntOp.cmpi .eq (BitVec.ofNat 32 b.val) (BitVec.ofNat 32 e.val)).toNat : ℝ) : EReal) = _
  rw [hw, hw, EReal.coe_add]
  split <;> split <;> simp

/-- The reference's loss. -/
theorem v170_at (i : S_.Idx) : val_main_v170 (F := Ideal) x0 W i = lossR (prob (rows x0) W) := by
  have h0 := v19_at x0 W
  have h1 := v24_at x0 W
  unfold val_main_v170 val_main_v29 val_main_v28 val_main_v27 val_main_v26 val_main_v25 val_main_v21 val_main_v20 val_main_cst_5 val_main_cst_8 val_main_cst_9 val_main_cst_10 val_main_cst_16
  generalize val_main_v19 (F := Ideal) x0 W = p at h0
  generalize val_main_v24 (F := Ideal) x0 W = q at h1
  pointwise []
  simp only [h0, h1]
  rfl

/-- The reference's loss is the kernel's. -/
theorem v170_eq (i : S_.Idx) : val_main_v170 (F := Ideal) x0 W i = Cert.KernelIdeal.Own.rLoss (rows x0) W (ix2 0 0) := by
  rw [v170_at, rLoss_at, ← loss_eq _ (prob_cases _ _)]
  rfl

end Cert.Moe
-- ==== Proof.Combine.lean ====
/- The kernel's results and the reference's are the same. -/
module

public import proofs.«01_k».proof.Proof.RegVal
public import proofs.«01_k».proof.Proof.RefOut
public import proofs.«01_k».proof.Proof.Loss
public import Idealize.ShloMosaic.Lib.Pointwise

@[expose] public section

set_option maxRecDepth 16384

noncomputable section

namespace Cert.Moe

open Cert.KernelIdeal Cert.KernelIdeal.Gen Cert.KernelIdeal.Own
open Idealize.ShloMosaic Idealize.ShloMosaic.TcCoe
open Cert.ReferenceIdeal.Read

/-- The expert of each assignment: a token's first choice, then its second. -/
def ex (X : Vec Ideal S4096x1024 .f32) (W : Vec Ideal S1024x8 .f32) (a : ℕ) : ℕ :=
  if h : a < 8192 then (if a % 2 = 0 then (e1 (prob X W ⟨a / 2, by omega⟩)).val else (e2 (prob X W ⟨a / 2, by omega⟩)).val) else 0

theorem ex_lt (X : Vec Ideal S4096x1024 .f32) (W : Vec Ideal S1024x8 .f32) (a : ℕ) : ex X W a < 8 := by
  unfold ex
  split
  · split
    · exact Fin.isLt _
    · exact Fin.isLt _
  · norm_num

theorem ex_first (X : Vec Ideal S4096x1024 .f32) (W : Vec Ideal S1024x8 .f32) (t : Fin 4096) : ex X W (2 * t.val) = (e1 (prob X W t)).val := by
  have ht := t.isLt
  unfold ex
  rw [dif_pos (by omega), if_pos (by omega)]
  congr 3
  exact Fin.ext (show 2 * t.val / 2 = t.val by omega)
theorem ex_second (X : Vec Ideal S4096x1024 .f32) (W : Vec Ideal S1024x8 .f32) (t : Fin 4096) : ex X W (2 * t.val + 1) = (e2 (prob X W t)).val := by
  have ht := t.isLt
  unfold ex
  rw [dif_pos (by omega), if_neg (by omega)]
  congr 3
  exact Fin.ext (show (2 * t.val + 1) / 2 = t.val by omega)

/-- A pair of columns read in one row after another. -/
theorem flat_at {α : Type} (x : S4096x2.Idx → α) (t : Fin 4096) (k : Fin 2) (hk : 2 * t.val + k.val < 8192) :
    shapeCast S8192 x shapeCasts_S4096x2_S8192 (ix1 ⟨2 * t.val + k.val, hk⟩) = x (ix2 t k) := by
  pointwise []

variable (m : (ℓ : Loc nD τ sig) → Buf (Elt Ideal) ℓ) (c : Dev nD)

abbrev pr (t : Fin 4096) : Row := prob (rows (a0 m c)) (a1 m c) t

theorem vE_at (a : Fin 8192) : vE m c (ix1 a) = BitVec.ofNat 32 (ex (rows (a0 m c)) (a1 m c) a.val) := by
  have ha := a.isLt
  unfold vE asgE
  rw [V2_idx]
  by_cases h : a.val % 2 = 0
  · have e : a = ⟨2 * (⟨a.val / 2, by omega⟩ : Fin 4096).val + (0 : Fin 2).val, by show 2 * (a.val / 2) + 0 < _; omega⟩ := Fin.ext (by show a.val = 2 * (a.val / 2) + 0; omega)
    rw [e, flat_at, rIdx_at0]
    exact congrArg (BitVec.ofNat 32) (ex_first _ _ _).symm
  · have e : a = ⟨2 * (⟨a.val / 2, by omega⟩ : Fin 4096).val + (1 : Fin 2).val, by show 2 * (a.val / 2) + 1 < _; omega⟩ := Fin.ext (by show a.val = 2 * (a.val / 2) + 1; omega)
    rw [e, flat_at, rIdx_at1]
    exact congrArg (BitVec.ofNat 32) (ex_second _ _ _).symm

theorem vW_first (t : Fin 4096) : vW m c (ix1 ⟨2 * t.val, by omega⟩) = w1 (pr m c t) := by
  unfold vW asgW
  rw [V2_val]
  exact (flat_at _ t 0 (by show 2 * t.val + 0 < _; omega)).trans (rVal_at0 _ _ t)
theorem vW_second (t : Fin 4096) : vW m c (ix1 ⟨2 * t.val + 1, by omega⟩) = w2 (pr m c t) := by
  unfold vW asgW
  rw [V2_val]
  exact (flat_at _ t 1 (by show 2 * t.val + 1 < _; omega)).trans (rVal_at1 _ _ t)

/-- The row of an assignment. -/
theorem xout_row (i : Fin 8192) (h : Fin 1024) :
    xout m c (ix2 ⟨pos (ex (rows (a0 m c)) (a1 m c)) i.val, pos_lt _ (ex_lt _ _) i.isLt⟩ h)
      = ffn (fun k => rows (a0 m c) (ix2 ⟨i.val / 2, by omega⟩ k)) (a2 m c) (a3 m c) (a4 m c) ⟨ex (rows (a0 m c)) (a1 m c) i.val, ex_lt _ _ _⟩ h * vW m c (ix1 i) := by
  have key := xout_at (tabs m) (Vin m) c (vE_at m c) (ex_lt _ _) (rows (a0 m c)) (vW m c) (tab0 m c) (tab1 m c) (in_x m c) (in_s m c) i h
  rw [in_a2, in_a3, in_a4] at key
  exact key

theorem row_first (t : Fin 4096) (h : Fin 1024) :
    pick0 (xout m c) (d34 (vE m c)) (ix2 t h) = ffn (fun k => rows (a0 m c) (ix2 t k)) (a2 m c) (a3 m c) (a4 m c) (e1 (pr m c t)) h * w1 (pr m c t) := by
  have ht := t.isLt
  rw [pick0_at (p := ⟨pos (ex (rows (a0 m c)) (a1 m c)) (2 * t.val), pos_lt _ (ex_lt _ _) (by omega)⟩) (d34_at (vE_at m c) (ex_lt _ _) ⟨2 * t.val, by omega⟩) h]
  refine (xout_row m c ⟨2 * t.val, by omega⟩ h).trans ?_
  rw [vW_first]
  have h1 : (⟨2 * t.val / 2, by omega⟩ : Fin 4096) = t := Fin.ext (show 2 * t.val / 2 = t.val by omega)
  have h2 : (⟨ex (rows (a0 m c)) (a1 m c) (2 * t.val), ex_lt _ _ _⟩ : Fin 8) = e1 (pr m c t) := Fin.ext (ex_first _ _ t)
  simp only [h1, h2]

theorem row_second (t : Fin 4096) (h : Fin 1024) :
    pick1 (xout m c) (d34 (vE m c)) (ix2 t h) = ffn (fun k => rows (a0 m c) (ix2 t k)) (a2 m c) (a3 m c) (a4 m c) (e2 (pr m c t)) h * w2 (pr m c t) := by
  have ht := t.isLt
  rw [pick1_at (p := ⟨pos (ex (rows (a0 m c)) (a1 m c)) (2 * t.val + 1), pos_lt _ (ex_lt _ _) (by omega)⟩) (d34_at (vE_at m c) (ex_lt _ _) ⟨2 * t.val + 1, by omega⟩) h]
  refine (xout_row m c ⟨2 * t.val + 1, by omega⟩ h).trans ?_
  rw [vW_second]
  have h1 : (⟨(2 * t.val + 1) / 2, by omega⟩ : Fin 4096) = t := Fin.ext (show (2 * t.val + 1) / 2 = t.val by omega)
  have h2 : (⟨ex (rows (a0 m c)) (a1 m c) (2 * t.val + 1), ex_lt _ _ _⟩ : Fin 8) = e2 (pr m c t) := Fin.ext (ex_second _ _ t)
  simp only [h1, h2]

/-- The first results agree. -/
theorem result0 : (V19 m (outs m) c main_v98 : FVec Ideal S2x2048x1024 .f32) = val_main_v169 (F := Ideal) (a0 m c) (a1 m c) (a2 m c) (a3 m c) (a4 m c) := by
  rw [end_v98]
  unfold val_main_v169
  refine congrArg (fun x : FVec Ideal S4096x1024 .f32 => shapeCast S2x2048x1024 x shapeCasts_S4096x1024_S2x2048x1024) (funext fun i => ?_)
  have hi : i = ix2 (i 0) (i 1) := funext fun a => by match a with | ⟨0, _⟩ => rfl | ⟨1, _⟩ => rfl
  rw [hi]
  refine Eq.trans ?_ (v168_two (a0 m c) (a1 m c) (a2 m c) (a3 m c) (a4 m c) (i 0) (i 1)).symm
  exact congrArg₂ (fun x y : EReal => x + y) (row_first m c (i 0) (i 1)) (row_second m c (i 0) (i 1))

/-- The second results agree. -/
theorem result1 : (V19 m (outs m) c main_v99 : FVec Ideal S_ .f32) = val_main_v170 (F := Ideal) (a0 m c) (a1 m c) := by
  rw [end_v99]
  funext i
  rw [v170_eq]
  generalize rLoss (rows (a0 m c)) (a1 m c) = L
  show L _ = _
  refine congrArg L (funext fun a => ?_)
  match a with
  | ⟨0, _⟩ => exact Subsingleton.elim (α := Fin 1) _ _
  | ⟨1, _⟩ => exact Subsingleton.elim (α := Fin 1) _ _

end Cert.Moe

end
-- ==== Proof.lean ====
module

public import proofs.«01_k».proof.Defs
public import proofs.«01_k».proof.Proof.RunI
public import proofs.«01_k».proof.Proof.Combine
public import proofs.«01_k».proof.Proof.RunK
public import proofs.«01_k».proof.Proof.Gen.ReferenceIdeal
public import proofs.«01_k».proof.Proof.Gen.ReferenceIdeal.Run
public import proofs.«01_k».proof.Proof.Gen.ReferenceIdeal.Read
public import Idealize.ShloMosaic.Lib.Claim

@[expose] public section

set_option maxRecDepth 16384

noncomputable section

namespace Cert.Proof

open Idealize.ShloMosaic Idealize.ShloMosaic.TcCoe Idealize.SL.Sem Idealize.ShloMosaic.StableHlo

/-- The kernel as printed runs, with its arguments unchanged and every counter at zero. -/
theorem frame_kernel : Cert.quiescent_Kernel (hKernel := Cert.Kernel.Gen.facts) := fun m g _ =>
  (θ_run Cert.Kernel.defs _ _).mono (fun r h => ⟨fun c => (h.1 c).1, h.2⟩) (Cert.Kernel.Own.run_main (F := Bits) m g)

/-- The kernel at the extended reals runs, with its arguments unchanged and every counter at zero. -/
theorem frame_kernelIdeal : Cert.quiescent_KernelIdeal (hKernelIdeal := Cert.KernelIdeal.Gen.facts) := fun m g _ =>
  (θ_run Cert.KernelIdeal.defs _ _).mono (fun r h => ⟨fun c => (h.1 c).1, h.2⟩) (Cert.KernelIdeal.Own.run_main (F := Ideal) m g)

/-- The reference runs, with its arguments unchanged; it declares no semaphore. -/
theorem frame_referenceIdeal : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run (F := Ideal) m g)

/-- The reference runs, its results the values read at its arguments. -/
theorem run_reference (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v169)
        = Cert.ReferenceIdeal.Read.val_main_v169 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_v170)
        = Cert.ReferenceIdeal.Read.val_main_v170 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono (fun r h c => ⟨(h c).1.trans (Cert.ReferenceIdeal.Read.val_main_v169_eq (launchContents m' c)),
    (h c).2.1.trans (Cert.ReferenceIdeal.Read.val_main_v170_eq (launchContents m' c)), (h c).2.2⟩) (Cert.ReferenceIdeal.Value.run (F := Ideal) m' g')

section
variable (m : (ℓ : Loc Cert.KernelIdeal.nD Cert.KernelIdeal.τ Cert.KernelIdeal.sig) → Buf (Elt Ideal) ℓ) (c : Dev Cert.KernelIdeal.nD)

/-- The kernel's results at the end of its run. -/
def out0 : Buf (Elt Ideal) ((c.tc : Thread Cert.KernelIdeal.nD Cert.KernelIdeal.τ).loc Cert.KernelIdeal.main_v98) :=
  Cert.KernelIdeal.Gen.V19 m (Cert.KernelIdeal.Own.outs m) c Cert.KernelIdeal.main_v98
def out1 : Buf (Elt Ideal) ((c.tc : Thread Cert.KernelIdeal.nD Cert.KernelIdeal.τ).loc Cert.KernelIdeal.main_v99) :=
  Cert.KernelIdeal.Gen.V19 m (Cert.KernelIdeal.Own.outs m) c Cert.KernelIdeal.main_v99

theorem ref0 (y0 : FVec Ideal Cert.KernelIdeal.S2x2048x1024 .f32) (y1 : FVec Ideal Cert.KernelIdeal.S1024x8 .f32) (y2 y3 : FVec Ideal Cert.KernelIdeal.S8x1024x2688 .f32) (y4 : FVec Ideal Cert.KernelIdeal.S8x2688x1024 .f32)
    (h0 : y0 = Cert.Moe.a0 m c) (h1 : y1 = Cert.Moe.a1 m c) (h2 : y2 = Cert.Moe.a2 m c) (h3 : y3 = Cert.Moe.a3 m c) (h4 : y4 = Cert.Moe.a4 m c) :
    Cert.ReferenceIdeal.Read.val_main_v169 (F := Ideal) y0 y1 y2 y3 y4 = out0 m c := by
  rw [h0, h1, h2, h3, h4]; exact (Cert.Moe.result0 m c).symm
theorem ref1 (y0 : FVec Ideal Cert.KernelIdeal.S2x2048x1024 .f32) (y1 : FVec Ideal Cert.KernelIdeal.S1024x8 .f32)
    (h0 : y0 = Cert.Moe.a0 m c) (h1 : y1 = Cert.Moe.a1 m c) : Cert.ReferenceIdeal.Read.val_main_v170 (F := Ideal) y0 y1 = out1 m c := by
  rw [h0, h1]; exact (Cert.Moe.result1 m c).symm
end

/-- From memories that agree on the arguments, the kernel and the reference end with equal results. -/
theorem algebraic : Cert.algebraic_KernelIdeal_ReferenceIdeal (hKernelIdeal := Cert.KernelIdeal.Gen.facts) (hReferenceIdeal := Cert.ReferenceIdeal.Gen.facts) :=
  fun m g m' g' _ hagree => ⟨out0 m, out1 m,
    (θ_run Cert.KernelIdeal.defs _ _).mono (fun r h c => ⟨(h.1 c).2.1, (h.1 c).2.2, (h.1 c).1⟩) (Cert.KernelIdeal.Own.run_main (F := Ideal) m g),
    (θ_run Cert.ReferenceIdeal.defs _ _).mono (fun r h c =>
      ⟨(h c).1.trans (ref0 m c _ _ _ _ _ (hagree c).1 (hagree c).2.1 (hagree c).2.2.1 (hagree c).2.2.2.1 (hagree c).2.2.2.2),
       (h c).2.1.trans (ref1 m c _ _ (hagree c).1 (hagree c).2.1), (h c).2.2⟩) (run_reference m' g')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
